-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S100000x128 : Shape := ⟨2, ![100000, 128]⟩
abbrev S512x128 : Shape := ⟨2, ![512, 128]⟩
abbrev S512 : Shape := ⟨1, ![512]⟩
abbrev S1x256 : Shape := ⟨2, ![1, 256]⟩
abbrev S1 : Shape := ⟨1, ![1]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) (main_arg2 : FVec F S512x128 .f32) (main_arg3 : FVec F S512x128 .f32) (main_arg4 : FVec F S512 .f32) (main_arg5 : FVec F S512 .f32) (main_arg6 : FVec F S512x128 .f32) (main_arg7 : FVec F S512x128 .f32) (main_arg8 : FVec F S512 .f32) (main_arg9 : FVec F S512 .f32) (main_arg10 : FVec F S1x256 .f32) (main_arg11 : FVec F S1 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x128 : Shape := ⟨2, ![100000, 128]⟩
abbrev S512x128 : Shape := ⟨2, ![512, 128]⟩
abbrev S512 : Shape := ⟨1, ![512]⟩
abbrev S1x256 : Shape := ⟨2, ![1, 256]⟩
abbrev S1 : Shape := ⟨1, ![1]⟩
abbrev S200x1024 : Shape := ⟨2, ![200, 1024]⟩
abbrev S204800 : Shape := ⟨1, ![204800]⟩
abbrev S204800x128 : Shape := ⟨2, ![204800, 128]⟩
abbrev S128 : Shape := ⟨1, ![128]⟩
abbrev S128x128 : Shape := ⟨2, ![128, 128]⟩
abbrev S_ : Shape := ⟨0, ![]⟩
abbrev S200x1024x128 : Shape := ⟨3, ![200, 1024, 128]⟩
abbrev S128x512 : Shape := ⟨2, ![128, 512]⟩
abbrev S256x512 : Shape := ⟨2, ![256, 512]⟩
abbrev S1x512 : Shape := ⟨2, ![1, 512]⟩
abbrev S1x1 : Shape := ⟨2, ![1, 1]⟩
abbrev S1024x128 : Shape := ⟨2, ![1024, 128]⟩
abbrev S1x1024x128 : Shape := ⟨3, ![1, 1024, 128]⟩
abbrev S1024x256 : Shape := ⟨2, ![1024, 256]⟩
abbrev S1024x512 : Shape := ⟨2, ![1024, 512]⟩
abbrev S1x128 : Shape := ⟨2, ![1, 128]⟩
abbrev S1024 : Shape := ⟨1, ![1024]⟩
abbrev S1024x1 : Shape := ⟨2, ![1024, 1]⟩

abbrev nBuf : Table → Nat
  | .hbm => 58
  | .local .tc .vmem => 14
  | .local .tc .smem => 1
  | .local .scVector .vmem => 2
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S1x256, .f32⟩
  | .hbm, ⟨11, _⟩ => ⟨S1, .f32⟩
  | .hbm, ⟨12, _⟩ => ⟨S200x1024, .i32⟩
  | .hbm, ⟨13, _⟩ => ⟨S204800, .i32⟩
  | .hbm, ⟨14, _⟩ => ⟨S204800x128, .f32⟩
  | .hbm, ⟨15, _⟩ => ⟨S200x1024x128, .f32⟩
  | .hbm, ⟨16, _⟩ => ⟨S128x512, .f32⟩
  | .hbm, ⟨17, _⟩ => ⟨S128x512, .f32⟩
  | .hbm, ⟨18, _⟩ => ⟨S256x512, .f32⟩
  | .hbm, ⟨19, _⟩ => ⟨S512, .f32⟩
  | .hbm, ⟨20, _⟩ => ⟨S1x512, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S512, .f32⟩
  | .hbm, ⟨30, _⟩ => ⟨S1x512, .f32⟩
  | .hbm, ⟨31, _⟩ => ⟨S256x512, .f32⟩
  | .hbm, ⟨32, _⟩ => ⟨S256x512, .f32⟩
  | .hbm, ⟨33, _⟩ => ⟨S1x512, .f32⟩
  | .hbm, ⟨34, _⟩ => ⟨S1x512, .f32⟩
  | .hbm, ⟨35, _⟩ => ⟨S128x512, .f32⟩
  | .hbm, ⟨36, _⟩ => ⟨S128x512, .f32⟩
  | .hbm, ⟨37, _⟩ => ⟨S256x512, .f32⟩
  | .hbm, ⟨38, _⟩ => ⟨S512, .f32⟩
  | .hbm, ⟨39, _⟩ => ⟨S1x512, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S512, .f32⟩
  | .hbm, ⟨49, _⟩ => ⟨S1x512, .f32⟩
  | .hbm, ⟨50, _⟩ => ⟨S256x512, .f32⟩
  | .hbm, ⟨51, _⟩ => ⟨S256x512, .f32⟩
  | .hbm, ⟨52, _⟩ => ⟨S1x512, .f32⟩
  | .hbm, ⟨53, _⟩ => ⟨S1x512, .f32⟩
  | .hbm, ⟨54, _⟩ => ⟨S1x1, .f32⟩
  | .hbm, ⟨55, _⟩ => ⟨S1024x128, .f32⟩
  | .hbm, ⟨56, _⟩ => ⟨S1024x1, .f32⟩
  | .hbm, ⟨57, _⟩ => ⟨S1024, .f32⟩
  | .local .tc .vmem, ⟨0, _⟩ => ⟨S1x1024x128, .f32⟩
  | .local .tc .vmem, ⟨1, _⟩ => ⟨S1x1024x128, .f32⟩
  | .local .tc .vmem, ⟨2, _⟩ => ⟨S1x1024x128, .f32⟩
  | .local .tc .vmem, ⟨3, _⟩ => ⟨S1x1024x128, .f32⟩
  | .local .tc .vmem, ⟨4, _⟩ => ⟨S256x512, .f32⟩
  | .local .tc .vmem, ⟨5, _⟩ => ⟨S256x512, .f32⟩
  | .local .tc .vmem, ⟨6, _⟩ => ⟨S1x512, .f32⟩
  | .local .tc .vmem, ⟨7, _⟩ => ⟨S1x512, .f32⟩
  | .local .tc .vmem, ⟨8, _⟩ => ⟨S1x256, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1024x128, .f32⟩
  | .local .tc .vmem, ⟨13, _⟩ => ⟨S1024x128, .f32⟩
  | .local .tc .smem, ⟨0, _⟩ => ⟨S1x1, .f32⟩
  | .local .scVector .vmem, ⟨0, _⟩ => ⟨S128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_arg1_scv : Ref sig .scVector := ⟨.hbm, 1, rfl⟩
abbrev main_v1_scv : Ref sig .scVector := ⟨.hbm, 13, rfl⟩
abbrev main_v2_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg8_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_stg7_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid1 : Pipeline.Grid := ⟨1, ![200], ![false]⟩

def k1_cond2 (i : grid1.Coords) : BitVec 1 :=
  let arg0 : BitVec 32 := BitVec.ofNat 32 (i 0).val
  let c199_i32 : BitVec 32 := 199#32
  let v77 : BitVec 1 := Scalar.cmpi .eq arg0 c199_i32
  let v78 : BitVec 32 := Scalar.extui v77
  let c0_i32_35 : BitVec 32 := 0#32
  let v79 : BitVec 1 := Scalar.cmpi .ne v78 c0_i32_35
  v79

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S512x128 : Shape := ⟨2, ![512, 128]⟩
abbrev S512 : Shape := ⟨1, ![512]⟩
abbrev S1x256 : Shape := ⟨2, ![1, 256]⟩
abbrev S1 : Shape := ⟨1, ![1]⟩
abbrev S_ : Shape := ⟨0, ![]⟩
abbrev S1024x200x1 : Shape := ⟨3, ![1024, 200, 1]⟩
abbrev S1x1x1 : Shape := ⟨3, ![1, 1, 1]⟩
abbrev S1024x200x128 : Shape := ⟨3, ![1024, 200, 128]⟩
abbrev S200x1024x128 : Shape := ⟨3, ![200, 1024, 128]⟩
abbrev S1024x128 : Shape := ⟨2, ![1024, 128]⟩
abbrev S1x1024x128 : Shape := ⟨3, ![1, 1024, 128]⟩
abbrev S128x512 : Shape := ⟨2, ![128, 512]⟩
abbrev S1024x512 : Shape := ⟨2, ![1024, 512]⟩
abbrev S1x512 : Shape := ⟨2, ![1, 512]⟩
abbrev S1024x256 : Shape := ⟨2, ![1024, 256]⟩
abbrev S256x1 : Shape := ⟨2, ![256, 1]⟩
abbrev S1024x1 : Shape := ⟨2, ![1024, 1]⟩
abbrev S1x1 : Shape := ⟨2, ![1, 1]⟩
abbrev S1024 : Shape := ⟨1, ![1024]⟩

abbrev nBuf : Space → Nat
  | .hbm => 176
  | .vmem => 0
  | .smem => 0
  | _ => 0

abbrev hbmTy0_0 (i : Nat) : BufTy := match i % 128 with
  | 0 => ⟨S1024x200, .i32⟩
  | 1 => ⟨S100000x128, .f32⟩
  | 2 => ⟨S512x128, .f32⟩
  | 3 => ⟨S512x128, .f32⟩
  | 4 => ⟨S512, .f32⟩
  | 5 => ⟨S512, .f32⟩
  | 6 => ⟨S512x128, .f32⟩
  | 7 => ⟨S512x128, .f32⟩
  | 8 => ⟨S512, .f32⟩
  | 9 => ⟨S512, .f32⟩
  | 10 => ⟨S1x256, .f32⟩
  | 11 => ⟨S1, .f32⟩
  | 12 => ⟨S_, .i32⟩
  | 13 => ⟨S1024x200, .i32⟩
  | 14 => ⟨S1024x200, .i1⟩
  | 15 => ⟨S_, .i32⟩
  | 16 => ⟨S1024x200, .i32⟩
  | 17 => ⟨S1024x200, .i32⟩
  | 18 => ⟨S1024x200, .i32⟩
  | 19 => ⟨S1024x200x1, .i32⟩
  | 20 => ⟨S1, .i32⟩
  | 21 => ⟨S_, .i32⟩
  | 22 => ⟨S1024x200x1, .i32⟩
  | 23 => ⟨S1024x200x1, .i1⟩
  | 24 => ⟨S1x1x1, .i32⟩
  | 25 => ⟨S1024x200x1, .i32⟩
  | 26 => ⟨S1024x200x1, .i1⟩
  | 27 => ⟨S1024x200x1, .i1⟩
  | 28 => ⟨S_, .i1⟩
  | 29 => ⟨S1024x200, .i1⟩
  | 30 => ⟨S1024x200x128, .f32⟩
  | 31 => ⟨S1024x200x128, .i1⟩
  | 32 => ⟨S_, .f32⟩
  | 33 => ⟨S1024x200x128, .f32⟩
  | 34 => ⟨S1024x200x128, .f32⟩
  | 35 => ⟨S200x1024x128, .f32⟩
  | 36 => ⟨S_, .f32⟩
  | 37 => ⟨S1024x128, .f32⟩
  | 38 => ⟨S_, .f32⟩
  | 39 => ⟨S1024x128, .f32⟩
  | 40 => ⟨S_, .i32⟩
  | 41 => ⟨S200x1024x128, .f32⟩
  | 42 => ⟨S512x128, .f32⟩
  | 43 => ⟨S512x128, .f32⟩
  | 44 => ⟨S512, .f32⟩
  | 45 => ⟨S512, .f32⟩
  | 46 => ⟨S_, .i32⟩
  | 47 => ⟨S1024x128, .f32⟩
  | 48 => ⟨S1024x128, .f32⟩
  | 49 => ⟨S_, .i32⟩
  | 50 => ⟨S_, .i1⟩
  | 51 => ⟨S_, .i32⟩
  | 52 => ⟨S_, .i32⟩
  | 53 => ⟨S1x1024x128, .f32⟩
  | 54 => ⟨S1024x128, .f32⟩
  | 55 => ⟨S128x512, .f32⟩
  | 56 => ⟨S1024x512, .f32⟩
  | 57 => ⟨S128x512, .f32⟩
  | 58 => ⟨S1024x512, .f32⟩
  | 59 => ⟨S1024x512, .f32⟩
  | 60 => ⟨S1x512, .f32⟩
  | 61 => ⟨S1024x512, .f32⟩
  | 62 => ⟨S1024x512, .f32⟩
  | 63 => ⟨S1x512, .f32⟩
  | 64 => ⟨S1024x512, .f32⟩
  | 65 => ⟨S1024x512, .f32⟩
  | 66 => ⟨S1024x128, .f32⟩
  | 67 => ⟨S1024x128, .f32⟩
  | 68 => ⟨S1024x128, .f32⟩
  | 69 => ⟨S1024x128, .f32⟩
  | 70 => ⟨S1024x128, .f32⟩
  | 71 => ⟨S1024x128, .f32⟩
  | 72 => ⟨S_, .f32⟩
  | 73 => ⟨S1024x128, .f32⟩
  | 74 => ⟨S1024x128, .f32⟩
  | 75 => ⟨S_, .f32⟩
  | 76 => ⟨S1024x128, .f32⟩
  | 77 => ⟨S1024x128, .f32⟩
  | 78 => ⟨S1024x128, .f32⟩
  | 79 => ⟨S1024x128, .f32⟩
  | 80 => ⟨S_, .f32⟩
  | 81 => ⟨S1024x128, .f32⟩
  | 82 => ⟨S1024x128, .f32⟩
  | 83 => ⟨S_, .f32⟩
  | 84 => ⟨S1024x128, .f32⟩
  | 85 => ⟨S1024x128, .f32⟩
  | 86 => ⟨S1024x128, .f32⟩
  | 87 => ⟨S1024x128, .f32⟩
  | 88 => ⟨S1024x128, .f32⟩
  | 89 => ⟨S_, .f32⟩
  | 90 => ⟨S1024x128, .f32⟩
  | 91 => ⟨S1024x128, .f32⟩
  | 92 => ⟨S_, .f32⟩
  | 93 => ⟨S1024x128, .f32⟩
  | 94 => ⟨S1024x128, .f32⟩
  | 95 => ⟨S1024x128, .f32⟩
  | 96 => ⟨S1024x128, .f32⟩
  | 97 => ⟨S1024x128, .f32⟩
  | 98 => ⟨S1024x128, .f32⟩
  | 99 => ⟨S1024x128, .f32⟩
  | 100 => ⟨S_, .i32⟩
  | 101 => ⟨S_, .i32⟩
  | 102 => ⟨S200x1024x128, .f32⟩
  | 103 => ⟨S_, .f32⟩
  | 104 => ⟨S1024x128, .f32⟩
  | 105 => ⟨S_, .f32⟩
  | 106 => ⟨S1024x128, .f32⟩
  | 107 => ⟨S_, .i32⟩
  | 108 => ⟨S200x1024x128, .f32⟩
  | 109 => ⟨S512x128, .f32⟩
  | 110 => ⟨S512x128, .f32⟩
  | 111 => ⟨S512, .f32⟩
  | 112 => ⟨S512, .f32⟩
  | 113 => ⟨S_, .i32⟩
  | 114 => ⟨S1024x128, .f32⟩
  | 115 => ⟨S1024x128, .f32⟩
  | 116 => ⟨S_, .i32⟩
  | 117 => ⟨S_, .i1⟩
  | 118 => ⟨S_, .i32⟩
  | 119 => ⟨S_, .i32⟩
  | 120 => ⟨S1x1024x128, .f32⟩
  | 121 => ⟨S1024x128, .f32⟩
  | 122 => ⟨S128x512, .f32⟩
  | 123 => ⟨S1024x512, .f32⟩
  | 124 => ⟨S128x512, .f32⟩
  | 125 => ⟨S1024x512, .f32⟩
  | 126 => ⟨S1024x512, .f32⟩
  | 127 => ⟨S1x512, .f32⟩
  | _ => ⟨S1024x200, .i32⟩

abbrev hbmTy0_1 (i : Nat) : BufTy := match i % 128 with
  | 0 => ⟨S1024x512, .f32⟩
  | 1 => ⟨S1024x512, .f32⟩
  | 2 => ⟨S1x512, .f32⟩
  | 3 => ⟨S1024x512, .f32⟩
  | 4 => ⟨S1024x512, .f32⟩
  | 5 => ⟨S1024x128, .f32⟩
  | 6 => ⟨S1024x128, .f32⟩
  | 7 => ⟨S1024x128, .f32⟩
  | 8 => ⟨S1024x128, .f32⟩
  | 9 => ⟨S1024x128, .f32⟩
  | 10 => ⟨S1024x128, .f32⟩
  | 11 => ⟨S_, .f32⟩
  | 12 => ⟨S1024x128, .f32⟩
  | 13 => ⟨S1024x128, .f32⟩
  | 14 => ⟨S_, .f32⟩
  | 15 => ⟨S1024x128, .f32⟩
  | 16 => ⟨S1024x128, .f32⟩
  | 17 => ⟨S1024x128, .f32⟩
  | 18 => ⟨S1024x128, .f32⟩
  | 19 => ⟨S_, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S1024x128, .f32⟩
  | 26 => ⟨S1024x128, .f32⟩
  | 27 => ⟨S1024x128, .f32⟩
  | 28 => ⟨S_, .f32⟩
  | 29 => ⟨S1024x128, .f32⟩
  | 30 => ⟨S1024x128, .f32⟩
  | 31 => ⟨S_, .f32⟩
  | 32 => ⟨S1024x128, .f32⟩
  | 33 => ⟨S1024x128, .f32⟩
  | 34 => ⟨S1024x128, .f32⟩
  | 35 => ⟨S1024x128, .f32⟩
  | 36 => ⟨S1024x128, .f32⟩
  | 37 => ⟨S1024x128, .f32⟩
  | 38 => ⟨S1024x128, .f32⟩
  | 39 => ⟨S_, .i32⟩
  | 40 => ⟨S_, .i32⟩
  | 41 => ⟨S1024x256, .f32⟩
  | 42 => ⟨S256x1, .f32⟩
  | 43 => ⟨S1024x1, .f32⟩
  | 44 => ⟨S1x1, .f32⟩
  | 45 => ⟨S1024x1, .f32⟩
  | 46 => ⟨S1024x1, .f32⟩
  | 47 => ⟨S1024, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_cst_0 : Ref sig .tc := ⟨.hbm, 38, rfl⟩
abbrev main_v3 : Ref sig .tc := ⟨.hbm, 39, rfl⟩
abbrev main_c : Ref sig .tc := ⟨.hbm, 40, rfl⟩
abbrev main_v4_0 : Ref sig .tc := ⟨.hbm, 41, rfl⟩
abbrev main_v4_1 : Ref sig .tc := ⟨.hbm, 42, rfl⟩
abbrev main_v4_2 : Ref sig .tc := ⟨.hbm, 43, rfl⟩
abbrev main_v4_3 : Ref sig .tc := ⟨.hbm, 44, rfl⟩
abbrev main_v4_4 : Ref sig .tc := ⟨.hbm, 45, rfl⟩
abbrev main_v4_5 : Ref sig .tc := ⟨.hbm, 46, rfl⟩
abbrev main_v4_6 : Ref sig .tc := ⟨.hbm, 47, rfl⟩
abbrev main_v4_7 : Ref sig .tc := ⟨.hbm, 48, rfl⟩
abbrev main_while0c_c_11 : Ref sig .tc := ⟨.hbm, 49, rfl⟩
abbrev main_while0c_v16 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_v0 : Ref sig .tc := ⟨.hbm, 53, rfl⟩
abbrev main_while0b_v16 : Ref sig .tc := ⟨.hbm, 54, rfl⟩
abbrev main_while0b_v17 : Ref sig .tc := ⟨.hbm, 55, rfl⟩
abbrev main_while0b_v18 : Ref sig .tc := ⟨.hbm, 56, rfl⟩
abbrev main_while0b_v19 : Ref sig .tc := ⟨.hbm, 57, rfl⟩
abbrev main_while0b_v20 : Ref sig .tc := ⟨.hbm, 58, rfl⟩
abbrev main_while0b_v21 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_cst_11 : Ref sig .tc := ⟨.hbm, 72, rfl⟩
abbrev main_while0b_v34 : Ref sig .tc := ⟨.hbm, 73, rfl⟩
abbrev main_while0b_v35 : Ref sig .tc := ⟨.hbm, 74, rfl⟩
abbrev main_while0b_cst_12 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_cst_13 : Ref sig .tc := ⟨.hbm, 80, rfl⟩
abbrev main_while0b_v40 : Ref sig .tc := ⟨.hbm, 81, rfl⟩
abbrev main_while0b_v41 : Ref sig .tc := ⟨.hbm, 82, rfl⟩
abbrev main_while0b_cst_14 : Ref sig .tc := ⟨.hbm, 83, rfl⟩
abbrev main_while0b_v42 : Ref sig .tc := ⟨.hbm, 84, rfl⟩
abbrev main_while0b_v43 : Ref sig .tc := ⟨.hbm, 85, rfl⟩
abbrev main_while0b_v44 : Ref sig .tc := ⟨.hbm, 86, rfl⟩
abbrev main_while0b_v45 : Ref sig .tc := ⟨.hbm, 87, rfl⟩
abbrev main_while0b_v46 : Ref sig .tc := ⟨.hbm, 88, rfl⟩
abbrev main_while0b_cst_15 : Ref sig .tc := ⟨.hbm, 89, rfl⟩
abbrev main_while0b_v47 : Ref sig .tc := ⟨.hbm, 90, rfl⟩
abbrev main_while0b_v48 : Ref sig .tc := ⟨.hbm, 91, rfl⟩
abbrev main_while0b_cst_16 : Ref sig .tc := ⟨.hbm, 92, rfl⟩
abbrev main_while0b_v49 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_c_17 : Ref sig .tc := ⟨.hbm, 100, rfl⟩
abbrev main_while0b_v56 : Ref sig .tc := ⟨.hbm, 101, rfl⟩
abbrev main_v5 : Ref sig .tc := ⟨.hbm, 102, rfl⟩
abbrev main_cst_1 : Ref sig .tc := ⟨.hbm, 103, rfl⟩
abbrev main_v6 : Ref sig .tc := ⟨.hbm, 104, rfl⟩
abbrev main_cst_2 : Ref sig .tc := ⟨.hbm, 105, rfl⟩
abbrev main_v7 : Ref sig .tc := ⟨.hbm, 106, rfl⟩
abbrev main_c_3 : Ref sig .tc := ⟨.hbm, 107, rfl⟩
abbrev main_v8_0 : Ref sig .tc := ⟨.hbm, 108, rfl⟩
abbrev main_v8_1 : Ref sig .tc := ⟨.hbm, 109, rfl⟩
abbrev main_v8_2 : Ref sig .tc := ⟨.hbm, 110, rfl⟩
abbrev main_v8_3 : Ref sig .tc := ⟨.hbm, 111, rfl⟩
abbrev main_v8_4 : Ref sig .tc := ⟨.hbm, 112, rfl⟩
abbrev main_v8_5 : Ref sig .tc := ⟨.hbm, 113, rfl⟩
abbrev main_v8_6 : Ref sig .tc := ⟨.hbm, 114, rfl⟩
abbrev main_v8_7 : Ref sig .tc := ⟨.hbm, 115, rfl⟩
abbrev main_while1c_c_11 : Ref sig .tc := ⟨.hbm, 116, rfl⟩
abbrev main_while1c_v16 : Ref sig .tc := ⟨.hbm, 117, rfl⟩
abbrev main_while1b_call2_c : Ref sig .tc := ⟨.hbm, 118, rfl⟩
abbrev main_while1b_call2_c_0 : Ref sig .tc := ⟨.hbm, 119, rfl⟩
abbrev main_while1b_call2_v0 : Ref sig .tc := ⟨.hbm, 120, rfl⟩
abbrev main_while1b_v16 : Ref sig .tc := ⟨.hbm, 121, rfl⟩
abbrev main_while1b_v17 : Ref sig .tc := ⟨.hbm, 122, rfl⟩
abbrev main_while1b_v18 : Ref sig .tc := ⟨.hbm, 123, rfl⟩
abbrev main_while1b_v19 : Ref sig .tc := ⟨.hbm, 124, rfl⟩
abbrev main_while1b_v20 : Ref sig .tc := ⟨.hbm, 125, rfl⟩
abbrev main_while1b_v21 : Ref sig .tc := ⟨.hbm, 126, rfl⟩
abbrev main_while1b_v22 : Ref sig .tc := ⟨.hbm, 127, rfl⟩
abbrev main_while1b_v23 : Ref sig .tc := ⟨.hbm, 128, rfl⟩
abbrev main_while1b_v24 : Ref sig .tc := ⟨.hbm, 129, rfl⟩
abbrev main_while1b_v25 : Ref sig .tc := ⟨.hbm, 130, rfl⟩
abbrev main_while1b_v26 : Ref sig .tc := ⟨.hbm, 131, rfl⟩
abbrev main_while1b_v27 : Ref sig .tc := ⟨.hbm, 132, rfl⟩
abbrev main_while1b_v28 : Ref sig .tc := ⟨.hbm, 133, rfl⟩
abbrev main_while1b_v29 : Ref sig .tc := ⟨.hbm, 134, rfl⟩
abbrev main_while1b_v30 : Ref sig .tc := ⟨.hbm, 135, rfl⟩
abbrev main_while1b_v31 : Ref sig .tc := ⟨.hbm, 136, rfl⟩
abbrev main_while1b_v32 : Ref sig .tc := ⟨.hbm, 137, rfl⟩
abbrev main_while1b_v33 : Ref sig .tc := ⟨.hbm, 138, rfl⟩
abbrev main_while1b_cst_11 : Ref sig .tc := ⟨.hbm, 139, rfl⟩
abbrev main_while1b_v34 : Ref sig .tc := ⟨.hbm, 140, rfl⟩
abbrev main_while1b_v35 : Ref sig .tc := ⟨.hbm, 141, rfl⟩
abbrev main_while1b_cst_12 : Ref sig .tc := ⟨.hbm, 142, rfl⟩
abbrev main_while1b_v36 : Ref sig .tc := ⟨.hbm, 143, rfl⟩
abbrev main_while1b_v37 : Ref sig .tc := ⟨.hbm, 144, rfl⟩
abbrev main_while1b_v38 : Ref sig .tc := ⟨.hbm, 145, rfl⟩
abbrev main_while1b_v39 : Ref sig .tc := ⟨.hbm, 146, rfl⟩
abbrev main_while1b_cst_13 : Ref sig .tc := ⟨.hbm, 147, rfl⟩
abbrev main_while1b_v40 : Ref sig .tc := ⟨.hbm, 148, rfl⟩
abbrev main_while1b_v41 : Ref sig .tc := ⟨.hbm, 149, rfl⟩
abbrev main_while1b_cst_14 : Ref sig .tc := ⟨.hbm, 150, rfl⟩
abbrev main_while1b_v42 : Ref sig .tc := ⟨.hbm, 151, rfl⟩
abbrev main_while1b_v43 : Ref sig .tc := ⟨.hbm, 152, rfl⟩
abbrev main_while1b_v44 : Ref sig .tc := ⟨.hbm, 153, rfl⟩
abbrev main_while1b_v45 : Ref sig .tc := ⟨.hbm, 154, rfl⟩
abbrev main_while1b_v46 : Ref sig .tc := ⟨.hbm, 155, rfl⟩
abbrev main_while1b_cst_15 : Ref sig .tc := ⟨.hbm, 156, rfl⟩
abbrev main_while1b_v47 : Ref sig .tc := ⟨.hbm, 157, rfl⟩
abbrev main_while1b_v48 : Ref sig .tc := ⟨.hbm, 158, rfl⟩
abbrev main_while1b_cst_16 : Ref sig .tc := ⟨.hbm, 159, rfl⟩
abbrev main_while1b_v49 : Ref sig .tc := ⟨.hbm, 160, rfl⟩
abbrev main_while1b_v50 : Ref sig .tc := ⟨.hbm, 161, rfl⟩
abbrev main_while1b_v51 : Ref sig .tc := ⟨.hbm, 162, rfl⟩
abbrev main_while1b_v52 : Ref sig .tc := ⟨.hbm, 163, rfl⟩
abbrev main_while1b_v53 : Ref sig .tc := ⟨.hbm, 164, rfl⟩
abbrev main_while1b_v54 : Ref sig .tc := ⟨.hbm, 165, rfl⟩
abbrev main_while1b_v55 : Ref sig .tc := ⟨.hbm, 166, rfl⟩
abbrev main_while1b_c_17 : Ref sig .tc := ⟨.hbm, 167, rfl⟩
abbrev main_while1b_v56 : Ref sig .tc := ⟨.hbm, 168, rfl⟩
abbrev main_v9 : Ref sig .tc := ⟨.hbm, 169, rfl⟩
abbrev main_v10 : Ref sig .tc := ⟨.hbm, 170, rfl⟩
abbrev main_v11 : Ref sig .tc := ⟨.hbm, 171, rfl⟩
abbrev main_v12 : Ref sig .tc := ⟨.hbm, 172, rfl⟩
abbrev main_v13 : Ref sig .tc := ⟨.hbm, 173, rfl⟩
abbrev main_v14 : Ref sig .tc := ⟨.hbm, 174, rfl⟩
abbrev main_v15 : Ref sig .tc := ⟨.hbm, 175, rfl⟩

abbrev nD : Nat := 1
abbrev τ : Topo := Topo.v7x

variable {F : FTy → Type} [FloatOps F]

abbrev main_while0_count : Scf.Loop 32 := ⟨0#32, 200#32, 1#32⟩

abbrev main_while1_count : Scf.Loop 32 := ⟨0#32, 200#32, 1#32⟩
-- ==== Proof.IdealTile.lean ====
/-
  The gather on the SparseCores. Each of the 32 vector subcores copies 50 chunks of 128 row numbers, gathers the rows of
  the table they name, and copies the gathered rows to its own 6400 rows of the output. The task is run once, at a
  symbolic subcore; its loop's invariant says which rows of the output already hold the gathered rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' cells, the pipeline's cells and the local copies' counters, side by side. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

/-! ## The call's three arrays and the gathered rows -/

abbrev iLoc (d : Dev nD) : Loc nD τ sig := (SparseCore.T d).loc main_v1
abbrev xLoc (d : Dev nD) : Loc nD τ sig := (SparseCore.T d).loc main_arg1
abbrev oLoc (d : Dev nD) : Loc nD τ sig := (SparseCore.T d).loc main_v2

abbrev iV : Memref sig Kind.scVector Space.hbm S204800 EltTy.i32 := Memref.whole main_v1_scv
abbrev xV : Memref sig Kind.scVector Space.hbm S100000x128 EltTy.f32 := Memref.whole main_arg1_scv
abbrev oV : Memref sig Kind.scVector Space.hbm S204800x128 EltTy.f32 := Memref.whole main_v2_scv
abbrev sV : Memref sig Kind.scVector Space.vmem S128 EltTy.i32 := Memref.whole cc0_scratch0
abbrev rV : Memref sig Kind.scVector Space.vmem S128x128 EltTy.f32 := Memref.whole cc0_scratch1

/-- The table's row named by word `w` (taken modulo the table's height, which changes nothing on a word in range). -/
def tabRow (w : BitVec 32) (j : Fin 128) : S100000x128.Idx :=
  fun | 0 => (⟨w.toNat % 100000, Nat.mod_lt _ (by decide)⟩ : Fin 100000) | 1 => j

/-- The position of row `n` of the index list. -/
def idx1 (n : Fin 204800) : S204800.Idx := fun | 0 => n

/-- The rows of the table `X` named by the list `I`, one below the other: what the call leaves in its output. -/
def rowsOf (I : S204800.Idx → Elt F .i32) (X : S100000x128.Idx → Elt F .f32) : S204800x128.Idx → Elt F .f32 :=
  fun x => X (tabRow (I (idx1 (x 0))) (x 1))

variable (I : (d : Dev nD) → Buf (Elt F) (iLoc d)) (X : (d : Dev nD) → Buf (Elt F) (xLoc d))

/-- Every word of the list names a row of the table. -/
def InRange : Prop := ∀ (d : Dev nD) (j : S204800.Idx), (I d j).toNat < 100000

abbrev tgt (d : Dev nD) : Buf (Elt F) (oLoc d) := rowsOf (I d) (X d)

/-- The output's rows that SparseCore `c` writes: the chunks of 6400 rows of its parity. -/
def coreSet (c : Fin 2) : Finset S204800x128.Idx := Finset.univ.filter fun x => (x 0).val / 6400 % 2 = c.val
/-- The output's rows that subcore `i` of SparseCore `c` writes. -/
def tileSet (c : Fin 2) (i : Fin 16) : Finset S204800x128.Idx := Finset.univ.filter fun x => (x 0).val / 6400 = 2 * i.val + c.val
/-- The rows one trip of a subcore's loop writes. -/
def tripSet (c : Fin 2) (i : Fin 16) (k : ℕ) : Finset S204800x128.Idx :=
  Finset.univ.filter fun x => 12800 * i.val + 6400 * c.val + 128 * k ≤ (x 0).val ∧ (x 0).val < 12800 * i.val + 6400 * c.val + 128 * k + 128

theorem tripSet_subset (c : Fin 2) (i : Fin 16) (k : ℕ) (hk : k < 50) : tripSet c i k ⊆ tileSet c i := by
  intro x hx
  simp only [tripSet, tileSet, Finset.mem_filter, Finset.mem_univ, true_and] at hx ⊢
  omega

/-- SparseCore `c`'s read share, and subcore `i`'s share of that. -/
abbrev cq (c : Fin 2) : PosShare TreeShare := Idealize.ShloMosaic.pieceOf fullShare 2 (by decide) c
abbrev tq (c : Fin 2) (i : Fin 16) : PosShare TreeShare := Idealize.ShloMosaic.pieceOf (cq c) 16 (by decide) i

/-! ## What the handshakes carry -/

abbrev coreIn (d : Dev nD) (c : Fin 2) : sProp 𝕄 :=
  iprop((iLoc d ↦{cq c} I d) ∗ (xLoc d ↦{cq c} X d) ∗ ∃ f, oLoc d ↦[coreSet c]{fullShare} f)
abbrev coreOut (d : Dev nD) (c : Fin 2) : sProp 𝕄 :=
  iprop((iLoc d ↦{cq c} I d) ∗ (xLoc d ↦{cq c} X d) ∗ oLoc d ↦[coreSet c]{fullShare} tgt I X d)
abbrev tileIn (d : Dev nD) (c : Fin 2) (i : Fin 16) : sProp 𝕄 :=
  iprop((iLoc d ↦{tq c i} I d) ∗ (xLoc d ↦{tq c i} X d) ∗ ∃ f, oLoc d ↦[tileSet c i]{fullShare} f)
abbrev tileOut (d : Dev nD) (c : Fin 2) (i : Fin 16) : sProp 𝕄 :=
  iprop((iLoc d ↦{tq c i} I d) ∗ (xLoc d ↦{tq c i} X d) ∗ oLoc d ↦[tileSet c i]{fullShare} tgt I X d)

/-- Each SparseCore takes its shares of the list and the table and its rows of the output, and brings them back with the
    gathered rows; each subcore the same of its SparseCore's. -/
def P : (K (F := F)).Pay (nD := nD) (Val := Elt F) (Name := ℕ) (U := UU) where
  st := fun q d c => match q with | 0 => coreIn I X d (Fin.cast nCore_zero c)
  dn := fun q d c => match q with | 0 => coreOut I X d (Fin.cast nCore_zero c)
  go := fun q d c i => match q with | 0 => tileIn I X d (Fin.cast nCore_zero c) (Fin.cast nSub_zero i)
  td := fun q d c i => match q with | 0 => tileOut I X d (Fin.cast nCore_zero c) (Fin.cast nSub_zero i)
  x := fun _ _ => iprop(emp)

instance P_storable : (P (F := F) I X).IsStorable where
  st q d c := match q with | 0 => (inferInstance : BI.Storable (upEmb : UEmb _ 𝕄) (coreIn I X d (Fin.cast nCore_zero c)))
  dn q d c := match q with | 0 => (inferInstance : BI.Storable (upEmb : UEmb _ 𝕄) (coreOut I X d (Fin.cast nCore_zero c)))
  go q d c i := match q with | 0 => (inferInstance : BI.Storable (upEmb : UEmb _ 𝕄) (tileIn I X d (Fin.cast nCore_zero c) (Fin.cast nSub_zero i)))
  td q d c i := match q with | 0 => (inferInstance : BI.Storable (upEmb : UEmb _ 𝕄) (tileOut I X d (Fin.cast nCore_zero c) (Fin.cast nSub_zero i)))

/-! ## The task's buffers as its views name them -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev thr (d : Dev nD) (L : grid0.Coords) : Thread nD τ := V d (cV L) (jV L)

theorem trips_eq : k0_t1_loop.trips = 50 := by decide

/-- Trip `k`'s chunk of the list and of the output, and all of the table, as the task addresses them. -/
abbrev iCh (L : grid0.Coords) (k : Fin k0_t1_loop.trips) : Memref sig .scVector .hbm S128 .i32 :=
  iV.slice (Rect.unit (s := S204800) (k0_off1 L k) S128.size (k0_off1_inb L k)) (fun _ => rfl)
abbrev oCh (L : grid0.Coords) (k : Fin k0_t1_loop.trips) : Memref sig .scVector .hbm S128x128 .f32 :=
  oV.slice (Rect.unit (s := S204800x128) (k0_off2 L k) S128x128.size (k0_off2_inb L k)) (fun _ => rfl)
abbrev xAll : Memref sig .scVector .hbm S100000x128 .f32 :=
  xV.slice (Rect.unit (s := S100000x128) ![0, 0] S100000x128.size inb_S100000x128_S100000x128_0_0) (fun _ => rfl)

theorem set_oCh (k : Fin k0_t1_loop.trips) : (oCh L k).view.set = tripSet (cL L) (jL L) k.val := by
  show ((View.whole (main_v2_scv : Ref sig .scVector)).slice _).set = _
  rw [View.set_slice]
  refine Finset.map_refl.trans ?_
  ext x
  rw [Rect.mem_set_unit, k0_off2_eq]
  simp only [tripSet, Finset.mem_filter, Finset.mem_univ, true_and]
  constructor
  · intro h; exact h 0
  · intro h a
    match a with
    | 0 => exact h
    | 1 => exact ⟨Nat.zero_le _, Nat.lt_of_lt_of_eq (x 1).isLt (Nat.zero_add 128).symm⟩

theorem pts_iV (q : PosShare TreeShare) (f : Buf (Elt F) (iLoc d)) : (iV.view.loc (thr d L) ↦{q} f : sProp 𝕄) = iLoc d ↦{q} f := rfl
theorem pts_xV (q : PosShare TreeShare) (f : Buf (Elt F) (xLoc d)) : (xV.view.loc (thr d L) ↦{q} f : sProp 𝕄) = xLoc d ↦{q} f := rfl
theorem pts_oCh (k : Fin k0_t1_loop.trips) (f : Buf (Elt F) (oLoc d)) :
    ((oCh L k).view.loc (thr d L) ↦[(oCh L k).view.set]{fullShare} f : sProp 𝕄) = oLoc d ↦[tripSet (cL L) (jL L) k.val]{fullShare} f := by
  rw [set_oCh]
theorem pts_sV (f : Buf (Elt F) ((thr d L).loc cc0_scratch0)) : (sV.view.loc (thr d L) ↦{fullShare} f : sProp 𝕄) = (thr d L).loc cc0_scratch0 ↦{fullShare} f := rfl
theorem pts_rV (f : Buf (Elt F) ((thr d L).loc cc0_scratch1)) : (rV.view.loc (thr d L) ↦{fullShare} f : sProp 𝕄) = (thr d L).loc cc0_scratch1 ↦{fullShare} f := rfl

abbrev cA (d : Dev nD) (L : grid0.Coords) : GSem nD τ sig := (thr d L, .dma cc0_scoped0.sem)
abbrev cB (d : Dev nD) (L : grid0.Coords) : GSem nD τ sig := (thr d L, .dma cc0_scratch2.sem)
abbrev cC (d : Dev nD) (L : grid0.Coords) : GSem nD τ sig := (thr d L, .dma cc0_scoped1.sem)

/-- The task's three transfer counters are among its subcore's own. -/
theorem ownSems0_V : (ownSems0 (thr d L) : sProp 𝕄)
    = iprop(semVal (cA d L) 0 ∗ semVal (cB d L) 0 ∗ semVal (cC d L) 0
        ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped1.sem : SemLoc sig).isScoped .scVector = true; decide⟩⟩⟩)]

/-- The task's two scratch buffers are among its subcore's own. -/
theorem ownBufs_V : (ownBufs (thr d L) : sProp 𝕄)
    = iprop((∃ f, (thr d L).loc cc0_scratch0 ↦{fullShare} f) ∗ (∃ f, (thr d L).loc cc0_scratch1 ↦{fullShare} f)
        ∗ bigSep (((ownRefs (τ := τ) (.scVector (cV L) (jV L))).erase ((Proc.scVector (cV L) (jV L)).devRef cc0_scratch0)).erase
            ((Proc.scVector (cV L) (jV L)).devRef cc0_scratch1))
            fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What one trip moves -/

variable (k : Fin k0_t1_loop.trips)

/-- The words one trip fetches. -/
abbrev words : S128.Idx → Elt F .i32 := (iCh L k).view.read (Elt F) (I d)

theorem words_apply (j : S128.Idx) (n : Fin 204800) (hn : n.val = 12800 * (L 1).val + 6400 * (L 0).val + 128 * k.val + (j 0).val) :
    words I d L k j = I d (idx1 n) := by
  refine ((View.read_apply _ _).trans (cast_eq _ _)).trans (congrArg (I d) ?_)
  funext a
  match a with
  | 0 =>
    apply Fin.ext
    show k0_off1 L k 0 + 1 * (j 0).val = n.val
    rw [k0_off1_eq, hn]; simp

theorem words_inb (hI : InRange I) (j : S128.Idx) : (words I d L k j).toNat < 100000 := by
  have e : words I d L k j = I d ((iCh L k).view.emb j) := (View.read_apply _ _).trans (cast_eq _ _)
  rw [e]; exact hI d _

/-- What one trip gathers: at row `j` of the chunk, the table's row the `j`th fetched word names. -/
theorem gathered_apply (hin : ∀ x, (words I d L k x).toNat < S100000x128.size gathers_S100000x128_S128x128.axis) (x : S128x128.Idx) (y : S204800x128.Idx)
    (h0 : (y 0).val = 12800 * (L 1).val + 6400 * (L 0).val + 128 * k.val + (x 0).val) (h1 : (y 1).val = (x 1).val) :
    SparseCore.gatherPayload gathers_S100000x128_S128x128 (xAll.view.read (Elt F) (X d))
        (SparseCore.rows (words I d L k) rfl hin) x = tgt I X d y := by
  unfold SparseCore.gatherPayload tgt rowsOf
  refine ((View.read_apply _ _).trans (cast_eq _ _)).trans (congrArg (X d) ?_)
  have hw : words I d L k (S128.rowMajor.symm ((x 0 : Fin 128).cast rfl)) = I d (idx1 (y 0)) := by
    refine words_apply I d L k _ (y 0) ?_
    rw [h0]
    have := Shape.rowMajor_val_one (S128.rowMajor.symm ((x 0 : Fin 128).cast rfl))
    rw [Equiv.apply_symm_apply] at this
    exact congrArg _ this
  funext a
  match a with
  | 0 =>
    apply Fin.ext
    refine (congrArg (fun n : Fin (S100000x128.size gathers_S100000x128_S128x128.axis) => 0 + 1 * n.val) (Shape.Gathers.idx_axis gathers_S100000x128_S128x128 _ x)).trans ?_
    show 0 + 1 * (words I d L k (S128.rowMajor.symm ((x 0 : Fin 128).cast rfl))).toNat = (I d (idx1 (y 0))).toNat % 100000
    rw [← hw]; exact (Nat.zero_add _).trans ((Nat.one_mul _).trans (Nat.mod_eq_of_lt (hin _)).symm)
  | 1 =>
    apply Fin.ext
    show 0 + 1 * (gathers_S100000x128_S128x128.idx _ x 1).val = (y 1).val
    rw [Shape.Gathers.idx_of_ne _ _ _ 1 (by decide), h1]
    show 0 + 1 * (x 1).val = _
    omega

/-- The trip's rows of the output, written with what the trip gathered, hold the gathered rows. -/
theorem landed (f : Buf (Elt F) (oLoc d)) (hin : ∀ x, (words I d L k x).toNat < S100000x128.size gathers_S100000x128_S128x128.axis)
    {y : S204800x128.Idx} (hy : y ∈ tripSet (cL L) (jL L) k.val) :
    (oCh L k).view.writes (Elt F) f [⟨Rect.whole S128x128, SparseCore.gatherPayload gathers_S100000x128_S128x128 (xAll.view.read (Elt F) (X d))
        (SparseCore.rows (words I d L k) rfl hin)⟩] y = tgt I X d y := by
  rw [← set_oCh] at hy
  obtain ⟨x, -, rfl⟩ := Finset.mem_map.mp hy
  have hr := View.read_writes_cons_emb (v := (oCh L k).view) (f := f) (Val := Elt F) (Rect.whole S128x128)
    (SparseCore.gatherPayload gathers_S100000x128_S128x128 (xAll.view.read (Elt F) (X d)) (SparseCore.rows (words I d L k) rfl hin)) [] x
  rw [Rect.emb_whole_apply] at hr
  refine ((View.read_apply _ _).trans (cast_eq _ _)).symm.trans (hr.trans (gathered_apply I X d L k hin x _ ?_ ?_))
  · show k0_off2 L k 0 + 1 * (x 0).val = _
    rw [k0_off2_eq]; simp
  · show k0_off2 L k 1 + 1 * (x 1).val = _
    rw [k0_off2_eq]; simp

/-! ## The task's run -/

variable [FloatOps F]

/-- Before trip `n`: the shares of the list and the table, the two scratch buffers, the three counters at zero, and the
    subcore's rows of the output, those of the trips done holding the gathered rows. -/
def inv (O : CellTallies nD τ sig (HIx 1)) (W : Waits sig (HIx 1)) (n : Nat) (_ : PUnit) : sProp 𝕄 :=
  iprop(Transfers.MayWaits (thr d L) (none : HIx 1) O
    ∗ (iV.view.loc (thr d L) ↦{tq (cL L) (jL L)} I d) ∗ (xV.view.loc (thr d L) ↦{tq (cL L) (jL L)} X d)
    ∗ (∃ f, ⌜∀ x ∈ tileSet (cL L) (jL L), (x 0).val < 12800 * (L 1).val + 6400 * (L 0).val + 128 * n → f x = tgt I X d x⌝
        ∗ oLoc d ↦[tileSet (cL L) (jL L)]{fullShare} f)
    ∗ (∃ f, sV.view.loc (thr d L) ↦{fullShare} f) ∗ (∃ f, rV.view.loc (thr d L) ↦{fullShare} f)
    ∗ semVal (cA d L) 0 ∗ semVal (cB d L) 0 ∗ semVal (cC d L) 0
    ∗ ∃ W', ⌜∀ p ∈ W', p ∈ W ∨ p.2 = none⌝ ∗ owes (thr d L) O W')

set_option maxHeartbeats 4000000 in
/-- The task on its vector subcore: its rows of the output come back holding the gathered rows. -/
theorem tile_body (hF : (K (F := F)).Facts) (hI : InRange I) (O : CellTallies nD τ sig (HIx 1)) (W : Waits sig (HIx 1)) (hO : ∀ g, O g none = 0) :
    iprop(levAts (K (F := F)).L (K (F := F)).lev ∗ emp ∗ tileIn I X d (cL L) (jL L)
        ∗ scopedBufs (thr d L) ∗ scopedSems0 (thr d L) ∗ owes (thr d L) O W)
      ⊢ wp frame (wpE (defs₀ (F := F)) 𝒱₀ (thr d L) none) Set.univ
          (cc0__embed_gather L xV (Memref.isWhole_whole _) iV (Memref.isWhole_whole _) oV (Memref.isWhole_whole _)
            sV (Memref.isWhole_whole _) rV (Memref.isWhole_whole _) cc0_scratch2 cc0_scoped0 cc0_scoped1)
          fun _ => iprop(tileOut I X d (cL L) (jL L)
            ∗ scopedBufs (thr d L) ∗ scopedSems0 (thr d L)
            ∗ ∃ W', ⌜∀ p ∈ W', p ∈ W ∨ p.2 = none⌝ ∗ owes (thr d L) O W') := by
  simp only [cc0__embed_gather_eq_skeleton]; unfold cc0__embed_gather_skel
  rw [(K (F := F)).scopedBufs_V hF d (cV L) (jV L), SparseCore.Cfg.scopedSems0_V (Val := Elt F) d (cV L) (jV L), ownSems0_V, ownBufs_V]
  iintro ⟨#Hlv, -, ⟨Hi, Hx, ⟨%fo, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (none : HIx 1) O from
    (K (F := F)).mayWaits_none (thr := thr d L) hO) $$ Hlv
  ihave Hi' := (Entails.of_eq (pts_iV (F := F) d L _ _).symm) $$ Hi
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  sl_for (inv I X d L O W) $$ [Hmw Hi' Hx' Ho Hs' Hr' HsemA HsemB HsemC HO]
  case region =>
    intro k _
    unfold inv
    iintro ⟨#Hmw, Hi, Hx, ⟨%f, %hf, Ho⟩, ⟨%fs, Hs⟩, ⟨%fr, Hr⟩, HsemA, HsemB, HsemC, %W', %hW', HO⟩
    have hk : k.val < 50 := Nat.lt_of_lt_of_eq k.isLt trips_eq
    ihave Ho := (pointsTo_split_subset (q := fullShare) (f := f) (tripSet_subset (cL L) (jL L) k.val hk)).1 $$ Ho
    icases Ho with ⟨Hoc, Hor⟩
    ihave Hoc := (Entails.of_eq (pts_oCh (F := F) d L k _).symm) $$ Hoc
    -- the fetch of the row numbers and its wait
    sl_exec (disch := exact View.amount_pos _ _ (show 0 < S128.numel by decide))
    -- the list as fetched, the table's share cut to the view's elements, and the gather
    have hrs : rV.view.set = Finset.univ := View.set_whole _
    have hss : sV.view.set = Finset.univ := View.set_whole _
    ihave Hs := (Entails.of_eq (show (sV.view.loc (thr d L) ↦{fullShare} View.write (Elt F) sV.view fs (tile_body.sl.dma0 I d L k) Finset.univ : sProp 𝕄)
        = sV.view.loc (thr d L) ↦[sV.view.set]{fullShare} (words I d L k : S128.Idx → Elt F .i32) by rw [hss, View.write_whole_univ]; rfl)) $$ Hs
    ihave Hr := (Entails.of_eq (show (rV.view.loc (thr d L) ↦{fullShare} fr : sProp 𝕄) = rV.view.loc (thr d L) ↦[rV.view.set]{fullShare} fr by rw [hrs])) $$ Hr
    ihave Hxs := (pointsTo_split_subset (q := tq (cL L) (jL L)) (f := X d) (S := Finset.univ) (Finset.subset_univ xAll.view.set)).1 $$ Hx
    icases Hxs with ⟨Hxs, Hxr⟩
    have hN : ∀ h : S100000x128.Gathers 0 S128x128, ∑ j, (rV.slice (S128x128.rowRect h.axis' j) (S128x128.stride_rowRect h.axis' j)).view.dmaCredit
        = rV.view.dmaCredit := by decide
    have hin : ∀ x, (sV.view.read (Elt F) (words I d L k : S128.Idx → Elt F .i32) x).toNat < S100000x128.size gathers_S100000x128_S128x128.axis := by
      intro x; rw [View.read_whole]; exact words_inb I d L k hI x
    iapply (SparseCore.wp_indirectGatherLocal countersEmb 𝒱₀ (thr d L) none (hg := gathers_S100000x128_S128x128) (default : HIx 1)
        rV.view.dmaCredit (hN _) (by decide) hin) $$ [Hxs Hr Hs HsemB]
    · isplitl [Hxs]; · iexact Hxs
      isplitl [Hr]; · iexact Hr
      isplitl [Hs]; · iexact Hs
      iexact HsemB
    iintro Hfl
    sl_exec
    iapply (Transfers.wp_waitLocalO countersEmb 𝒱₀ (thr d L) none (default : HIx 1) (rfl : rV.view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr, Hxs, Hs⟩, HsemB, HO⟩
    ihave Hx := (pointsTo_split_subset (q := tq (cL L) (jL L)) (f := X d) (S := Finset.univ) (Finset.subset_univ xAll.view.set)).2 $$ [Hxs Hxr]
    · isplitl [Hxs] <;> iassumption
    ihave Hr := (Entails.of_eq (show (rV.view.loc (thr d L) ↦[rV.view.set]{fullShare} _ : sProp 𝕄) = rV.view.loc (thr d L) ↦{fullShare}
        SparseCore.gatherPayload gathers_S100000x128_S128x128 (xAll.view.read (Elt F) (X d)) (SparseCore.rows (words I d L k) rfl hin) by
          rw [hrs, View.write_whole_univ]; rfl)) $$ Hr
    ihave Hs := (Entails.of_eq (show (sV.view.loc (thr d L) ↦[sV.view.set]{fullShare} _ : sProp 𝕄) = sV.view.loc (thr d L) ↦{fullShare} _ by rw [hss])) $$ Hs
    -- the write-out and its wait
    sl_exec (disch := exact View.amount_pos _ _ (show 0 < S128x128.numel by decide))
    sl_step
    isplitr; · iexact Hmw
    isplitl [Hi]; · iexact Hi
    isplitl [Hx]; · iexact Hx
    isplitl [Hoc Hor]
    · iexists (fun x => if x ∈ tripSet (cL L) (jL L) k.val then tgt I X d x else f x)
      isplitr
      · ipureintro; intro x hx hlt
        have h1 : (jL L).val = (L 1).val := rfl
        have h0 : (cL L).val = (L 0).val := rfl
        by_cases hm : x ∈ tripSet (cL L) (jL L) k.val
        · exact if_pos hm
        · refine (if_neg hm).trans (hf x hx ?_)
          simp only [tripSet, Finset.mem_filter, Finset.mem_univ, _root_.true_and] at hm
          omega
      · iapply (pointsTo_split_subset (q := fullShare) (tripSet_subset (cL L) (jL L) k.val hk)).2
        isplitl [Hoc]
        · ihave Hoc := (Entails.of_eq (pts_oCh (F := F) d L k _)) $$ Hoc
          iapply (Entails.of_eq (pointsTo_congr (q := fullShare) fun x hx => ?_)) $$ Hoc
          rw [if_pos hx]
          exact landed I X d L k f hin hx
        · iapply (Entails.of_eq (pointsTo_congr (q := fullShare) fun x hx => ?_)) $$ Hor
          rw [if_neg (Finset.mem_sdiff.mp hx).2]
    isplitl [Hs]; · iexists _; iexact Hs
    isplitl [Hr]; · iexists _; iexact Hr
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi']; · iexact Hi'
    isplitl [Hx']; · iexact Hx'
    isplitl [Ho]
    · iexists fo; isplitr
      · ipureintro; intro x hx hlt
        simp only [tileSet, Finset.mem_filter, Finset.mem_univ, _root_.true_and] at hx
        have h1 : (jL L).val = (L 1).val := rfl
        have h0 : (cL L).val = (L 0).val := rfl
        omega
      · iexact Ho
    isplitl [Hs']; · iexists _; iexact Hs'
    isplitl [Hr']; · iexists _; iexact Hr'
    isplitl [HsemA]; · iexact HsemA
    isplitl [HsemB]; · iexact HsemB
    isplitl [HsemC]; · iexact HsemC
    iexists W; isplitr
    · ipureintro; exact fun p hp => .inl hp
    · iexact HO
  iintro %acc H
  unfold inv
  icases H with ⟨-, Hi, Hx, ⟨%f, %hf, Ho⟩, Hs, Hr, HsemA, HsemB, HsemC, HW⟩
  sl_exec
  sl_step
  isplitl [Hi Hx Ho]
  · isplitl [Hi]; · iexact Hi
    isplitl [Hx]; · iexact Hx
    iapply (Entails.of_eq (pointsTo_congr (q := fullShare) fun x hx => hf x hx (by
      have ht : Scf.trips k0_t1_loop.lb k0_t1_loop.ub k0_t1_loop.st = 50 := trips_eq
      simp only [tileSet, Finset.mem_filter, Finset.mem_univ, _root_.true_and] at hx
      have h1 : (jL L).val = (L 1).val := rfl
      have h0 : (cL L).val = (L 0).val := rfl
      omega)))
    iexact Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HW

end Tile

end Cert.KernelIdeal.Pf

end
-- ==== Proof.IdealSplit.lean ====
/-
  The gather call's launch facts: every subcore's obligation, the split of a SparseCore's operands among its subcores,
  and the split of the call's three arrays among the two SparseCores.
-/
module

public import proofs.«01_k».proof.Proof.IdealTile
public import proofs.«01_k».proof.Proof.Gen.KernelIdeal.Launch

@[expose] public section

set_option maxRecDepth 16384

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : (d : Dev nD) → Buf (Elt F) (iLoc d)) (X : (d : Dev nD) → Buf (Elt F) (xLoc d))

/-! ## The subcore's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__embed_gather (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hF : (K (F := F)).Facts) (hI : InRange I) : (K (F := F)).TileObl (D (F := F)) 𝒱 (P I X) v₀ 0 := by
  intro d c i O W hO _ _
  simp only [show (P I X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ()))  _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I X d (coordsV ⟨_, hci.1⟩ ⟨_, hci.2⟩) hF hI O W hO).trans (wp_mono frame _ _ fun _ => obl_post)

/-! ## The rows' split -/

theorem tileSet_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun x hi hj => h (Fin.ext ?_)
  simp only [tileSet, Finset.mem_filter, Finset.mem_univ, _root_.true_and] at hi hj
  omega

theorem coreSet_eq (c : Fin 2) : (Finset.univ : Finset (Fin 16)).biUnion (tileSet c) = coreSet c := by
  ext x
  simp only [tileSet, coreSet, Finset.mem_biUnion, Finset.mem_filter, Finset.mem_univ, _root_.true_and]
  have hx : (x 0).val < 204800 := (x 0).isLt
  constructor
  · rintro ⟨i, hi⟩; omega
  · intro h; exact ⟨⟨(x 0).val / 6400 / 2, by omega⟩, by show _ = 2 * ((x 0).val / 6400 / 2) + c.val; omega⟩

theorem coreSet_disjoint : ∀ i ∈ (Finset.univ : Finset (Fin 2)), ∀ j ∈ (Finset.univ : Finset (Fin 2)), i ≠ j → Disjoint (coreSet i) (coreSet j) := by
  intro i _ j _ h
  refine Finset.disjoint_left.mpr fun x hi hj => h (Fin.ext ?_)
  simp only [coreSet, Finset.mem_filter, Finset.mem_univ, _root_.true_and] at hi hj
  omega

theorem coreSet_cover : (Finset.univ : Finset (Fin 2)).biUnion coreSet = Finset.univ := by
  ext x
  simp only [coreSet, Finset.mem_biUnion, Finset.mem_filter, Finset.mem_univ, _root_.true_and, iff_true]
  exact ⟨⟨(x 0).val / 6400 % 2, Nat.mod_lt _ (by decide)⟩, rfl⟩

theorem oCore_tiles (d : Dev nD) (c : Fin 2) (f : Buf (Elt F) (oLoc d)) :
    (oLoc d ↦[coreSet c]{fullShare} f : sProp 𝕄) = bigSep Finset.univ fun i : Fin 16 => oLoc d ↦[tileSet c i]{fullShare} f := by
  rw [← pointsTo_biUnion Finset.univ (ℓ := oLoc d) (tileSet c) (tileSet_disjoint c), coreSet_eq]

theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet coreSet_disjoint, coreSet_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Each of several pieces of the output at `f` is that piece at some contents. -/
theorem some_contents {J : Type} [Fintype J] (d : Dev nD) (A : J → Finset S204800x128.Idx) (f : Buf (Elt F) (oLoc d)) :
    (bigSep Finset.univ fun i : J => oLoc d ↦[A i]{fullShare} f : sProp 𝕄) ⊢ bigSep Finset.univ fun i : J => iprop(∃ f, oLoc d ↦[A i]{fullShare} f) :=
  bigSep_mono fun i _ => (show (oLoc d ↦[A i]{fullShare} f : sProp 𝕄) ⊢ iprop(∃ f, oLoc d ↦[A i]{fullShare} f) from by
    iintro H; iexists f; iexact H)

theorem vecSplit : (K (F := F)).VecSplit' (P I X) 0 := by
  intro d c
  show coreIn I X d (Fin.cast nCore_zero c) ⊢ |={Set.univ}=> iprop(
      (bigSep Finset.univ fun i : Fin ((K (F := F)).nSub 0) => tileIn I X d (Fin.cast nCore_zero c) (Fin.cast nSub_zero i))
      ∗ ((bigSep Finset.univ fun i : Fin ((K (F := F)).nSub 0) => tileOut I X d (Fin.cast nCore_zero c) (Fin.cast nSub_zero i))
          -∗ coreOut I X d (Fin.cast nCore_zero c)))
  generalize Fin.cast nCore_zero c = c'
  rw [bigSep_tasks (F := F) (fun i => tileIn I X d c' i), bigSep_tasks (F := F) (fun i => tileOut I X d c' i)]
  unfold tileIn tileOut coreIn coreOut
  rw [bigSep_sep', bigSep_sep', bigSep_sep', bigSep_sep', pointsTo_piecesOf Finset.univ (I d) (o := 16) (by decide) (cq c'),
    pointsTo_piecesOf Finset.univ (X d) (o := 16) (by decide) (cq c'), oCore_tiles]
  iintro ⟨Hi, Hx, %f, Ho⟩; imodintro
  isplitl [Hi Hx Ho]
  · isplitl [Hi]; · iexact Hi
    isplitl [Hx]; · iexact Hx
    ihave Ho := (Entails.of_eq (oCore_tiles d c' f)) $$ Ho
    iapply (some_contents d (tileSet c') f) $$ Ho
  iintro ⟨Hi, Hx, Ho⟩
  isplitl [Hi]; · iexact Hi
  isplitl [Hx]; · iexact Hx
  iexact Ho

/-- The three arrays whole are what the call takes; -/
theorem st_of_whole (d : Dev nD) (f : Buf (Elt F) (oLoc d)) :
    iprop((iLoc d ↦{fullShare} I d) ∗ (xLoc d ↦{fullShare} X d) ∗ oLoc d ↦{fullShare} f)
      ⊢ (bigSep Finset.univ fun c : Fin ((K (F := F)).nCore 0) => (P I X).st 0 d c : sProp 𝕄) := by
  have h : iprop((iLoc d ↦{fullShare} I d) ∗ (xLoc d ↦{fullShare} X d) ∗ oLoc d ↦{fullShare} f)
      ⊢ (bigSep Finset.univ fun c : Fin 2 => coreIn I X d c : sProp 𝕄) := by
    unfold coreIn
    rw [bigSep_sep', bigSep_sep', pointsTo_piecesOf Finset.univ (I d) (o := 2) (by decide) fullShare,
      pointsTo_piecesOf Finset.univ (X d) (o := 2) (by decide) fullShare, oPts_cores]
    iintro ⟨Hi, Hx, Ho⟩
    isplitl [Hi]; · iexact Hi
    isplitl [Hx]; · iexact Hx
    iapply (some_contents d coreSet f) $$ Ho
  exact h.trans (Entails.of_eq (bigSep_cores (F := F) (fun c => coreIn I X d c)).symm)

/-- and what it brings back is the list and the table as they were and the output holding the gathered rows. -/
theorem whole_of_dn (d : Dev nD) :
    (bigSep Finset.univ fun c : Fin ((K (F := F)).nCore 0) => (P I X).dn 0 d c : sProp 𝕄)
      ⊢ iprop((iLoc d ↦{fullShare} I d) ∗ (xLoc d ↦{fullShare} X d) ∗ oLoc d ↦{fullShare} tgt I X d) := by
  refine (Entails.of_eq (bigSep_cores (F := F) (fun c => coreOut I X d c))).trans ?_
  unfold coreOut
  rw [bigSep_sep', bigSep_sep', pointsTo_piecesOf Finset.univ (I d) (o := 2) (by decide) fullShare,
    pointsTo_piecesOf Finset.univ (X d) (o := 2) (by decide) fullShare, oPts_cores]

/-! ## The launch element -/

abbrev adm : (p : Fin 1) → (pcfgs (F := F) p).Adm := fun p => (cfgs p).toPCfg_adm

theorem phinj : Function.Injective (Pipeline.cellOf (nD := nD) (τ := τ) (Pipeline.pin (pcfgs (F := F)) adm)) := cellOf_inj

end Cert.KernelIdeal.Pf

end
-- ==== Proof.IdealLstm.lean ====
/-
  The recurrence on the TensorCore. One grid point runs one step of both directions: it reads the block of rows of the
  step and the state kept in four scratch buffers, and stores the next state; the first point clears the state before
  the step, the last one also stores the result. The body is run once in each of the three cases.
-/
module

public import proofs.«01_k».proof.Proof.IdealTile
public import Idealize.ShloMosaic.Lib.Pipeline.FrameBody
public import Idealize.ShloMosaic.Lib.Ring
public import Idealize.ShloMosaic.Lib.Pipeline.Value
public import Idealize.ShloMosaic.Lib.WordCmp
public import proofs.«01_k».proof.Proof.Gen.KernelIdeal.Launch
public import proofs.«01_k».proof.Proof.Gen.KernelIdeal.Points

@[expose] public section

set_option maxRecDepth 16384

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.Pipeline (Dat BodyObligation)

variable {F : FTy → Type} [FloatOps F]

local notation "𝕄" => MT nD τ sig (HIx 1) (Elt F) ℕ UU ℕ

/-! ## The state and one step -/

/-- The state the four scratch buffers keep: the two hidden states and the two cell states. -/
structure Cells (F : FTy → Type) where
  hf : Vec F S1024x128 .f32
  cf : Vec F S1024x128 .f32
  hb : Vec F S1024x128 .f32
  cb : Vec F S1024x128 .f32

/-- The cleared state. -/
def zeroCells : Cells F := ⟨k1_pay2, k1_pay3, k1_pay4, k1_pay5⟩

/-- The state after one step over the forward block `x0` and the backward block `x1`. -/
def stepCells (x0 x1 : Vec F S1x1024x128 .f32) (x2 x3 : Vec F S256x512 .f32) (x4 x5 : Vec F S1x512 .f32) (s : Cells F) : Cells F :=
  ⟨k1_pay13 (k1_pay8 x0 s.hf s.cf x2 x4), k1_pay14 (k1_pay7 x0 s.hf s.cf x2 x4),
    k1_pay15 (k1_pay9 x1) s.hb s.cb x3 x5, k1_pay16 (k1_pay9 x1) s.hb s.cb x3 x5⟩

/-- The result the last step stores. -/
def lastOut (x0 x1 : Vec F S1x1024x128 .f32) (x2 x3 : Vec F S256x512 .f32) (x4 x5 : Vec F S1x512 .f32) (x6 : Vec F S1x256 .f32) (x7 : Vec F S1x1 .f32)
    (s : Cells F) : Vec F S1024x128 .f32 :=
  k1_pay1 (k1_pay8 x0 s.hf s.cf x2 x4) (k1_pay12 (k1_pay9 x1) s.hb s.cb x3 x5) x6 (x7 (Shape.Idx.first (s := S1x1) (by decide)))

/-! ## The two conditions of the body -/

abbrev isFirst (i : grid1.Coords) : Prop := (Scalar.cmpi .ne (Scalar.extui (Scalar.cmpi .eq (BitVec.ofNat 32 (i 0).val) 0#32)) 0#32) = 1#1

theorem isFirst_iff (t : Fin cfg1.N) : isFirst (grid1.coords t) ↔ t.val = 0 := by
  have ht : t.val < 200 := Nat.lt_of_lt_of_eq t.isLt N_1
  have e0 : (grid1.coords t 0).val = t.val / 1 % 200 := Pipeline.Grid.coords_val t 0 (by decide) rfl
  simp only [isFirst, e0]
  word_cmp

theorem isLast_iff (t : Fin cfg1.N) : k1_cond2 (grid1.coords t) = 1#1 ↔ t.val = 199 := by
  have ht : t.val < 200 := Nat.lt_of_lt_of_eq t.isLt N_1
  have e0 : (grid1.coords t 0).val = t.val / 1 % 200 := Pipeline.Grid.coords_val t 0 (by decide) rfl
  simp only [k1_cond2, e0]
  word_cmp

/-! ## Whole loads and stores -/

/-- A load of a whole buffer reads what the buffer holds. -/
theorem load_whole {sp : Space} {S : Shape} {e : EltTy} {r : Memref sig .tc sp S e} (h : r.IsWhole) {off : Fin S.rank → ℕ}
    (inb : ∀ a, off a + S.size a ≤ S.size a) (X : S.Idx → Elt F e) (ho : ∀ a, off a = 0) :
    r.view.readAt (Elt F) (Rect.unit off (no_index S.size) inb).toLoadRect (h.unread X) = X := by
  obtain rfl : off = fun _ => 0 := funext ho
  funext y
  show r.view.read (Elt F) (h.unread X) ((Rect.whole S).emb y) = X y
  rw [Rect.emb_whole_apply, h.read_unread]

/-- A store of a whole buffer leaves what it stores, whatever was there. -/
theorem store_whole {sp : Space} {S : Shape} {e : EltTy} (r : Memref sig .tc sp S e) (f : r.view.ty.Idx → Elt F r.view.ty.elt) {off : Fin S.rank → ℕ}
    (inb : ∀ a, off a + S.size a ≤ S.size a) (X : S.Idx → Elt F e) (L : List (View.Piece (Elt F) S e)) (ho : ∀ a, off a = 0) :
    r.view.read (Elt F) (r.view.writes (Elt F) f (⟨Rect.unit off S.size inb, X⟩ :: L)) = X := by
  obtain rfl : off = fun _ => 0 := funext ho
  funext y
  have h := View.read_writes_cons_emb r.view f (Rect.whole S) X L y
  rw [Rect.emb_whole_apply] at h
  exact h

/-- A load of what a whole store left reads what was stored. -/
theorem load_stored {sp : Space} {S : Shape} {e : EltTy} (r : Memref sig .tc sp S e) {off : Fin S.rank → ℕ}
    (inb : ∀ a, off a + S.size a ≤ S.size a) (X : S.Idx → Elt F e) (ho : ∀ a, off a = 0) :
    r.view.readCov [(⟨Rect.unit off (no_index S.size) inb, X⟩ : View.Piece (Elt F) S e)] (Rect.unit off (no_index S.size) inb).toLoadRect = X :=
  View.readCov_unit_zero _ (funext ho) _ _

section Run

variable (c : Dev nD) (i : grid1.Coords) {arg1 : Memref sig .tc .vmem S1x1024x128 .f32} (harg1 : arg1.IsWhole) {arg2 : Memref sig .tc .vmem S1x1024x128 .f32} (harg2 : arg2.IsWhole)
   {arg3 : Memref sig .tc .vmem S256x512 .f32} (harg3 : arg3.IsWhole) {arg4 : Memref sig .tc .vmem S256x512 .f32} (harg4 : arg4.IsWhole)
   {arg5 : Memref sig .tc .vmem S1x512 .f32} (harg5 : arg5.IsWhole) {arg6 : Memref sig .tc .vmem S1x512 .f32} (harg6 : arg6.IsWhole)
   {arg7 : Memref sig .tc .vmem S1x256 .f32} (harg7 : arg7.IsWhole) {arg8 : Memref sig .tc .smem S1x1 .f32} (harg8 : arg8.IsWhole)
   {arg9 : Memref sig .tc .vmem S1024x128 .f32} (harg9 : arg9.IsWhole) {arg10 : Memref sig .tc .vmem S1024x128 .f32} (harg10 : arg10.IsWhole)
   {arg11 : Memref sig .tc .vmem S1024x128 .f32} (harg11 : arg11.IsWhole) {arg12 : Memref sig .tc .vmem S1024x128 .f32} (harg12 : arg12.IsWhole)
   {arg13 : Memref sig .tc .vmem S1024x128 .f32} (harg13 : arg13.IsWhole)
variable (x0 x1 : Vec F S1x1024x128 .f32) (x2 x3 : Vec F S256x512 .f32) (x4 x5 : Vec F S1x512 .f32) (x6 : Vec F S1x256 .f32) (x7 : Vec F S1x1 .f32) (s : Cells F)

variable (arg1 arg2 arg3 arg4 arg5 arg6 arg7 arg8) in
/-- The eight input buffers at their blocks. -/
def inputs : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

variable (arg10 arg11 arg12 arg13) in
/-- The four scratch buffers at a state. -/
def cells : sProp 𝕄 :=
  iprop(owns (c : Thread nD τ) arg10 fullShare s.hf ∗ owns (c : Thread nD τ) arg11 fullShare s.cf ∗ owns (c : Thread nD τ) arg12 fullShare s.hb ∗ owns (c : Thread nD τ) arg13 fullShare s.cb)

set_option maxHeartbeats 1600000 in
/-- A point that is neither the first nor the last: the state advances by one step. -/
theorem run_mid (h0 : ¬ isFirst i) (h1 : ¬ k1_cond2 i = 1#1) (E : Set ℕ) (Q : PUnit → sProp 𝕄) :
    iprop(inputs c arg1 arg2 arg3 arg4 arg5 arg6 arg7 arg8 x0 x1 x2 x3 x4 x5 x6 x7 ∗ cells c arg10 arg11 arg12 arg13 s
        ∗ (iprop(inputs c arg1 arg2 arg3 arg4 arg5 arg6 arg7 arg8 x0 x1 x2 x3 x4 x5 x6 x7 ∗ cells c arg10 arg11 arg12 arg13 (stepCells x0 x1 x2 x3 x4 x5 s)) -∗ Q ⟨⟩))
      ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11 arg12 harg12 arg13 harg13) Q := by
  simp only [cc1__lstm_body_eq_skeleton]; unfold cc1__lstm_body_skel
  simp only [k1_part1_eq_skeleton, k1_part2_eq_skeleton]
  unfold inputs cells owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%fs0, %hfs0, HS0⟩, ⟨%fs1, %hfs1, HS1⟩, ⟨%fs2, %hfs2, HS2⟩, ⟨%fs3, %hfs3, HS3⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  obtain rfl := harg10.eq_unread hfs0; obtain rfl := harg11.eq_unread hfs1; obtain rfl := harg12.eq_unread hfs2; obtain rfl := harg13.eq_unread hfs3
  sl_exec (disch := first | sl_exact h0 | sl_exact h1)
  sl_step
  iapply Hk
  isplitl [H0 H1 H2 H3 H4 H5 H6 H7]
  · skip
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [HS0]
  · iexists _; isplitr
    swap; · iexact HS0
    ipureintro; refine (store_whole _ _ _ _ _ (by decide)).trans ?_
    (try delta run_mid.sl.r_5); (try delta run_mid.sl.r_4); (try delta run_mid.sl.r_3); (try delta run_mid.sl.r_2); (try delta run_mid.sl.r_1); (try delta run_mid.sl.r)
    simp (disch := decide) only [stepCells, lastOut, zeroCells, load_whole, load_stored]
  isplitl [HS1]
  · iexists _; isplitr
    swap; · iexact HS1
    ipureintro; refine (store_whole _ _ _ _ _ (by decide)).trans ?_
    (try delta run_mid.sl.r_5); (try delta run_mid.sl.r_4); (try delta run_mid.sl.r_3); (try delta run_mid.sl.r_2); (try delta run_mid.sl.r_1); (try delta run_mid.sl.r)
    simp (disch := decide) only [stepCells, lastOut, zeroCells, load_whole, load_stored]
  isplitl [HS2]
  · iexists _; isplitr
    swap; · iexact HS2
    ipureintro; refine (store_whole _ _ _ _ _ (by decide)).trans ?_
    (try delta run_mid.sl.r_5); (try delta run_mid.sl.r_4); (try delta run_mid.sl.r_3); (try delta run_mid.sl.r_2); (try delta run_mid.sl.r_1); (try delta run_mid.sl.r)
    simp (disch := decide) only [stepCells, lastOut, zeroCells, load_whole, load_stored]
  iexists _; isplitr
  swap; · iexact HS3
  ipureintro; refine (store_whole _ _ _ _ _ (by decide)).trans ?_
  (try delta run_mid.sl.r_5); (try delta run_mid.sl.r_4); (try delta run_mid.sl.r_3); (try delta run_mid.sl.r_2); (try delta run_mid.sl.r_1); (try delta run_mid.sl.r)
  simp (disch := decide) only [stepCells, lastOut, zeroCells, load_whole, load_stored]

set_option maxHeartbeats 1600000 in
/-- The first point: the state is cleared and then advances by one step. -/
theorem run_first (h0 : isFirst i) (h1 : ¬ k1_cond2 i = 1#1) (E : Set ℕ) (Q : PUnit → sProp 𝕄) :
    iprop(inputs c arg1 arg2 arg3 arg4 arg5 arg6 arg7 arg8 x0 x1 x2 x3 x4 x5 x6 x7 ∗ (∃ s, cells c arg10 arg11 arg12 arg13 s)
        ∗ (iprop(inputs c arg1 arg2 arg3 arg4 arg5 arg6 arg7 arg8 x0 x1 x2 x3 x4 x5 x6 x7 ∗ cells c arg10 arg11 arg12 arg13 (stepCells x0 x1 x2 x3 x4 x5 zeroCells)) -∗ Q ⟨⟩))
      ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11 arg12 harg12 arg13 harg13) Q := by
  simp only [cc1__lstm_body_eq_skeleton]; unfold cc1__lstm_body_skel
  simp only [k1_part1_eq_skeleton, k1_part2_eq_skeleton]
  unfold inputs cells owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%s, ⟨%fs0, %hfs0, HS0⟩, ⟨%fs1, %hfs1, HS1⟩, ⟨%fs2, %hfs2, HS2⟩, ⟨%fs3, %hfs3, HS3⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  obtain rfl := harg10.eq_unread hfs0; obtain rfl := harg11.eq_unread hfs1; obtain rfl := harg12.eq_unread hfs2; obtain rfl := harg13.eq_unread hfs3
  sl_exec (disch := first | sl_exact h0 | sl_exact h1)
  sl_step
  iapply Hk
  isplitl [H0 H1 H2 H3 H4 H5 H6 H7]
  · skip
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [HS0]
  · iexists _; isplitr
    swap; · iexact HS0
    ipureintro; refine (store_whole _ _ _ _ _ (by decide)).trans ?_
    (try delta run_first.sl.r_4); (try delta run_first.sl.r_3); (try delta run_first.sl.r_2); (try delta run_first.sl.r_1); (try delta run_first.sl.r); (try delta run_first.sl.v37); (try delta run_first.sl.v36); (try delta run_first.sl.v6); (try delta run_first.sl.v5); (try delta run_first.sl.HS3_1); (try delta run_first.sl.HS2_1); (try delta run_first.sl.HS1_1); (try delta run_first.sl.HS0_1)
    simp (disch := decide) only [stepCells, lastOut, zeroCells, load_whole, load_stored]
  isplitl [HS1]
  · iexists _; isplitr
    swap; · iexact HS1
    ipureintro; refine (store_whole _ _ _ _ _ (by decide)).trans ?_
    (try delta run_first.sl.r_4); (try delta run_first.sl.r_3); (try delta run_first.sl.r_2); (try delta run_first.sl.r_1); (try delta run_first.sl.r); (try delta run_first.sl.v37); (try delta run_first.sl.v36); (try delta run_first.sl.v6); (try delta run_first.sl.v5); (try delta run_first.sl.HS3_1); (try delta run_first.sl.HS2_1); (try delta run_first.sl.HS1_1); (try delta run_first.sl.HS0_1)
    simp (disch := decide) only [stepCells, lastOut, zeroCells, load_whole, load_stored]
  isplitl [HS2]
  · iexists _; isplitr
    swap; · iexact HS2
    ipureintro; refine (store_whole _ _ _ _ _ (by decide)).trans ?_
    (try delta run_first.sl.r_4); (try delta run_first.sl.r_3); (try delta run_first.sl.r_2); (try delta run_first.sl.r_1); (try delta run_first.sl.r); (try delta run_first.sl.v37); (try delta run_first.sl.v36); (try delta run_first.sl.v6); (try delta run_first.sl.v5); (try delta run_first.sl.HS3_1); (try delta run_first.sl.HS2_1); (try delta run_first.sl.HS1_1); (try delta run_first.sl.HS0_1)
    simp (disch := decide) only [stepCells, lastOut, zeroCells, load_whole, load_stored]
  iexists _; isplitr
  swap; · iexact HS3
  ipureintro; refine (store_whole _ _ _ _ _ (by decide)).trans ?_
  (try delta run_first.sl.r_4); (try delta run_first.sl.r_3); (try delta run_first.sl.r_2); (try delta run_first.sl.r_1); (try delta run_first.sl.r); (try delta run_first.sl.v37); (try delta run_first.sl.v36); (try delta run_first.sl.v6); (try delta run_first.sl.v5); (try delta run_first.sl.HS3_1); (try delta run_first.sl.HS2_1); (try delta run_first.sl.HS1_1); (try delta run_first.sl.HS0_1)
  simp (disch := decide) only [stepCells, lastOut, zeroCells, load_whole, load_stored]

set_option maxHeartbeats 1600000 in
/-- The last point: the state advances by one step and the result is stored. -/
theorem run_last (h0 : ¬ isFirst i) (h1 : k1_cond2 i = 1#1) (E : Set ℕ) (Q : PUnit → sProp 𝕄) :
    iprop(inputs c arg1 arg2 arg3 arg4 arg5 arg6 arg7 arg8 x0 x1 x2 x3 x4 x5 x6 x7 ∗ cells c arg10 arg11 arg12 arg13 s ∗ (∃ d, owns (c : Thread nD τ) arg9 fullShare d)
        ∗ (iprop(inputs c arg1 arg2 arg3 arg4 arg5 arg6 arg7 arg8 x0 x1 x2 x3 x4 x5 x6 x7 ∗ cells c arg10 arg11 arg12 arg13 (stepCells x0 x1 x2 x3 x4 x5 s) ∗ owns (c : Thread nD τ) arg9 fullShare (lastOut x0 x1 x2 x3 x4 x5 x6 x7 s)) -∗ Q ⟨⟩))
      ⊢ wp frame (wpE (defs₀ (F := F)) Variants.none c none) E (cc1__lstm_body i arg1 harg1 arg2 harg2 arg3 harg3 arg4 harg4 arg5 harg5 arg6 harg6 arg7 harg7 arg8 harg8 arg9 harg9 arg10 harg10 arg11 harg11 arg12 harg12 arg13 harg13) Q := by
  simp only [cc1__lstm_body_eq_skeleton]; unfold cc1__lstm_body_skel
  simp only [k1_part1_eq_skeleton, k1_part2_eq_skeleton]
  unfold inputs cells owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%fs0, %hfs0, HS0⟩, ⟨%fs1, %hfs1, HS1⟩, ⟨%fs2, %hfs2, HS2⟩, ⟨%fs3, %hfs3, HS3⟩⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  obtain rfl := harg10.eq_unread hfs0; obtain rfl := harg11.eq_unread hfs1; obtain rfl := harg12.eq_unread hfs2; obtain rfl := harg13.eq_unread hfs3
  sl_exec (disch := first | sl_exact h0 | sl_exact h1)
  sl_step
  iapply Hk
  isplitl [H0 H1 H2 H3 H4 H5 H6 H7]
  · skip
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact H7
  isplitl [HS0 HS1 HS2 HS3]
  · skip
    isplitl [HS0]
    · iexists _; isplitr
      swap; · iexact HS0
      ipureintro; refine (store_whole _ _ _ _ _ (by decide)).trans ?_
      (try delta run_last.sl.r_6); (try delta run_last.sl.r_5); (try delta run_last.sl.r_4); (try delta run_last.sl.r_3); (try delta run_last.sl.r_2); (try delta run_last.sl.r_1); (try delta run_last.sl.r)
      simp (disch := decide) only [stepCells, lastOut, zeroCells, load_whole, load_stored]
    isplitl [HS1]
    · iexists _; isplitr
      swap; · iexact HS1
      ipureintro; refine (store_whole _ _ _ _ _ (by decide)).trans ?_
      (try delta run_last.sl.r_6); (try delta run_last.sl.r_5); (try delta run_last.sl.r_4); (try delta run_last.sl.r_3); (try delta run_last.sl.r_2); (try delta run_last.sl.r_1); (try delta run_last.sl.r)
      simp (disch := decide) only [stepCells, lastOut, zeroCells, load_whole, load_stored]
    isplitl [HS2]
    · iexists _; isplitr
      swap; · iexact HS2
      ipureintro; refine (store_whole _ _ _ _ _ (by decide)).trans ?_
      (try delta run_last.sl.r_6); (try delta run_last.sl.r_5); (try delta run_last.sl.r_4); (try delta run_last.sl.r_3); (try delta run_last.sl.r_2); (try delta run_last.sl.r_1); (try delta run_last.sl.r)
      simp (disch := decide) only [stepCells, lastOut, zeroCells, load_whole, load_stored]
    iexists _; isplitr
    swap; · iexact HS3
    ipureintro; refine (store_whole _ _ _ _ _ (by decide)).trans ?_
    (try delta run_last.sl.r_6); (try delta run_last.sl.r_5); (try delta run_last.sl.r_4); (try delta run_last.sl.r_3); (try delta run_last.sl.r_2); (try delta run_last.sl.r_1); (try delta run_last.sl.r)
    simp (disch := decide) only [stepCells, lastOut, zeroCells, load_whole, load_stored]
  iexists _; isplitr
  swap; · iexact H8
  ipureintro; refine (store_whole _ _ _ _ _ (by decide)).trans ?_
  (try delta run_last.sl.r_6); (try delta run_last.sl.r_5); (try delta run_last.sl.r_4); (try delta run_last.sl.r_3); (try delta run_last.sl.r_2); (try delta run_last.sl.r_1); (try delta run_last.sl.r)
  simp (disch := decide) only [stepCells, lastOut, zeroCells, load_whole, load_stored]

end Run

/-! ## The pipeline's proof data -/

abbrev sc0 : Memref sig .tc .vmem S1024x128 .f32 := Memref.whole cc1_scratch0
abbrev sc1 : Memref sig .tc .vmem S1024x128 .f32 := Memref.whole cc1_scratch1
abbrev sc2 : Memref sig .tc .vmem S1024x128 .f32 := Memref.whole cc1_scratch2
abbrev sc3 : Memref sig .tc .vmem S1024x128 .f32 := Memref.whole cc1_scratch3

-- what every buffer of the TensorCore holds when the call starts
variable (V : (c : Dev nD) → (b : Ref sig .tc) → Buf (Elt F) ((c : Thread nD τ).loc b))

/-- A window's block at a grid point, read off its array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid point of a step. -/
def pt (n : ℕ) : Fin cfg1.N := ⟨n % 200, lt_of_lt_of_eq (Nat.mod_lt _ (by omega)) N_1.symm⟩

theorem pt_val (t : Fin cfg1.N) : pt t.val = t :=
  Fin.ext (Nat.mod_eq_of_lt (lt_of_lt_of_eq t.isLt N_1))

/-- The state after the first `n` steps. -/
def stAt (c : Dev nD) : ℕ → Cells F
  | 0 => zeroCells
  | n + 1 => stepCells (blk V c 0 (pt n)) (blk V c 1 (pt n)) (blk V c 2 (pt n)) (blk V c 3 (pt n)) (blk V c 4 (pt n)) (blk V c 5 (pt n)) (stAt c n)

theorem stAt_succ (c : Dev nD) (t : Fin cfg1.N) :
    stAt V c (t.val + 1) = stepCells (blk V c 0 t) (blk V c 1 t) (blk V c 2 t) (blk V c 3 t) (blk V c 4 t) (blk V c 5 t) (stAt V c t.val) := by
  show stepCells _ _ _ _ _ _ _ = _
  rw [pt_val]

/-- What a step would store as the result. -/
def outAt (c : Dev nD) (t : Fin cfg1.N) : Vec F S1024x128 .f32 :=
  lastOut (blk V c 0 t) (blk V c 1 t) (blk V c 2 t) (blk V c 3 t) (blk V c 4 t) (blk V c 5 t) (blk V c 6 t) (blk V c 7 t) (stAt V c t.val)

/-- The scratch between grid points: at anything before the first, then at the state so far. -/
def scratch (c : Dev nD) : ℕ → sProp 𝕄
  | 0 => iprop(∃ s, cells c sc0 sc1 sc2 sc3 s)
  | n + 1 => cells c sc0 sc1 sc2 sc3 (stAt V c (n + 1))

/-- The proof data of the pipeline: every input's buffer at its block, the output's at the result, the scratch at the
    state; the core owes nothing. -/
def dat (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => outAt V c t
  Φ t := scratch V c t.val
  q w := Pipeline.shareOf spec1 w
  owed _ := 0
  recorded _ := {p | (K (F := F)).lev (T c, p.1) p.2 ≤ 8}

theorem dat_A (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = outAt V c t := by dsimp only [dat]

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [dat_A]; try rfl) t d).trans
    (by unfold Dat.fetched Dat.blockOf blk; rw [dat_A]; try rfl)
theorem before_7 (c : Dev nD) (t : Fin cfg1.N) (d) : (dat V c).before 7 t d = blk V c 7 t :=
  ((dat V c).before_in_eq_fetched 7 rfl (fun _ => rfl) (fun _ _ _ => rfl) (fun t => by rw [after_7]; unfold Dat.blockOf blk; rw [dat_A]; try rfl) t d).trans
    (by unfold Dat.fetched Dat.blockOf blk; rw [dat_A]; try rfl)

/-- What the body is called with at a grid point, -/
def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt none t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_0 (c : Dev nD) (t : Fin cfg1.N) : ((dat V c).leavesExact 0 t : sProp 𝕄) = owns (c : Thread nD τ) (st1_0 t) fullShare (blk V c 0 t) := by
  unfold Dat.leavesExact; rw [show cfg1.idle 0 (cfg1.grid.coords t) = false from rfl, after_0]
theorem leaves_1 (c : Dev nD) (t : Fin cfg1.N) : ((dat V c).leavesExact 1 t : sProp 𝕄) = owns (c : Thread nD τ) (st1_1 t) fullShare (blk V c 1 t) := by
  unfold Dat.leavesExact; rw [show cfg1.idle 1 (cfg1.grid.coords t) = false from rfl, after_1]
theorem leaves_2 (c : Dev nD) (t : Fin cfg1.N) : ((dat V c).leavesExact 2 t : sProp 𝕄) = owns (c : Thread nD τ) (st1_2 t) fullShare (blk V c 2 t) := by
  unfold Dat.leavesExact; rw [show cfg1.idle 2 (cfg1.grid.coords t) = false from rfl, after_2]
theorem leaves_3 (c : Dev nD) (t : Fin cfg1.N) : ((dat V c).leavesExact 3 t : sProp 𝕄) = owns (c : Thread nD τ) (st1_3 t) fullShare (blk V c 3 t) := by
  unfold Dat.leavesExact; rw [show cfg1.idle 3 (cfg1.grid.coords t) = false from rfl, after_3]
theorem leaves_4 (c : Dev nD) (t : Fin cfg1.N) : ((dat V c).leavesExact 4 t : sProp 𝕄) = owns (c : Thread nD τ) (st1_4 t) fullShare (blk V c 4 t) := by
  unfold Dat.leavesExact; rw [show cfg1.idle 4 (cfg1.grid.coords t) = false from rfl, after_4]
theorem leaves_5 (c : Dev nD) (t : Fin cfg1.N) : ((dat V c).leavesExact 5 t : sProp 𝕄) = owns (c : Thread nD τ) (st1_5 t) fullShare (blk V c 5 t) := by
  unfold Dat.leavesExact; rw [show cfg1.idle 5 (cfg1.grid.coords t) = false from rfl, after_5]
theorem leaves_6 (c : Dev nD) (t : Fin cfg1.N) : ((dat V c).leavesExact 6 t : sProp 𝕄) = owns (c : Thread nD τ) (st1_6 t) fullShare (blk V c 6 t) := by
  unfold Dat.leavesExact; rw [show cfg1.idle 6 (cfg1.grid.coords t) = false from rfl, after_6]
theorem leaves_7 (c : Dev nD) (t : Fin cfg1.N) : ((dat V c).leavesExact 7 t : sProp 𝕄) = owns (c : Thread nD τ) (st1_7 t) fullShare (blk V c 7 t) := by
  unfold Dat.leavesExact; rw [show cfg1.idle 7 (cfg1.grid.coords t) = false from rfl, after_7]

theorem leaves_out (c : Dev nD) (t : Fin cfg1.N) (h : ¬ k1_cond2 (grid1.coords t) = 1#1) :
    ((dat V c).leavesExact 8 t : sProp 𝕄) = iprop(∃ d, owns (c : Thread nD τ) (st1_8 t) fullShare ((dat V c).before 8 t d)) :=
  (dat V c).leavesExact_idle 8 t (by show (!(k1_cond2 (grid1.coords t) == 1#1)) = true; simpa using h)
    (by
      have h2 := flush1_8 t
      have h3 := isLast_iff t
      have ht : t.val < 200 := lt_of_lt_of_eq t.isLt N_1
      cases hf : (cfg1.win 8).flush t
      · rfl
      · exact absurd (h3.mpr (by have := h2.mp hf; omega)) h)

theorem leaves_last (c : Dev nD) (t : Fin cfg1.N) (h : k1_cond2 (grid1.coords t) = 1#1) :
    ((dat V c).leavesExact 8 t : sProp 𝕄) = owns (c : Thread nD τ) (st1_8 t) fullShare (outAt V c t) := by
  unfold Dat.leavesExact
  rw [show cfg1.idle 8 (cfg1.grid.coords t) = false from (by show (!(k1_cond2 (grid1.coords t) == 1#1)) = false; simp [h]), after_8]

set_option maxHeartbeats 3200000 in
/-- The body at any grid point. -/
theorem sound_body (c : Dev nD) (t : Fin cfg1.N) :
    bodyPre V c t ⊢ wp frame (wpE (defs₀ (F := F)) Variants.none c none) Set.univ (bodyAt1 t) (fun _ => bodyPost V c t) := by
  have ht : t.val < 200 := lt_of_lt_of_eq t.isLt N_1
  unfold bodyPre bodyPost bodyAt1
  simp only [before_0, leaves_0, before_1, leaves_1, before_2, leaves_2, before_3, leaves_3, before_4, leaves_4, before_5, leaves_5, before_6, leaves_6, before_7, leaves_7]
  rw [show (dat V c).owesAt none t.succ = (dat V c).owesAt none t.castSucc from rfl,
    show (dat V c).Φ t.succ = cells c sc0 sc1 sc2 sc3 (stAt V c (t.val + 1)) from rfl, stAt_succ]
  by_cases h1 : k1_cond2 (grid1.coords t) = 1#1
  · have h0 : ¬ isFirst (grid1.coords t) := fun h => by
      have := (isFirst_iff t).mp h; have := (isLast_iff t).mp h1; omega
    rw [leaves_last V c t h1, show (dat V c).Φ t.castSucc = cells c sc0 sc1 sc2 sc3 (stAt V c t.val) from by
      have := (isLast_iff t).mp h1
      obtain ⟨n, hn⟩ : ∃ n, t.val = n + 1 := ⟨t.val - 1, by omega⟩
      show scratch V c t.val = _
      rw [hn]; rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last c (grid1.coords t) _ _ _ _ _ _ _ _ _ _ _ _ _ (blk V c 0 t) (blk V c 1 t) (blk V c 2 t) (blk V c 3 t) (blk V c 4 t) (blk V c 5 t) (blk V c 6 t) (blk V c 7 t) (stAt V c t.val) h0 h1 Set.univ _)
    isplitl [H0 H1 H2 H3 H4 H5 H6 H7]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HS]; · iexact HS
    isplitl [H8]; · iexists _; iexact H8
    unfold inputs
    iintro ⟨⟨H0, H1, H2, H3, H4, H5, H6, H7⟩, HS, H8⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_out V c t h1]
    by_cases h0 : isFirst (grid1.coords t)
    · have hz := (isFirst_iff t).mp h0
      rw [show (dat V c).Φ t.castSucc = iprop(∃ s, cells c sc0 sc1 sc2 sc3 s) from by
        show scratch V c t.val = _
        rw [hz]; rfl, show stAt V c t.val = zeroCells from by rw [hz]; rfl]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid1.coords t) _ _ _ _ _ _ _ _ (harg9 := hstage1_8 _) _ _ _ _ (blk V c 0 t) (blk V c 1 t) (blk V c 2 t) (blk V c 3 t) (blk V c 4 t) (blk V c 5 t) (blk V c 6 t) (blk V c 7 t) h0 h1 Set.univ _)
      isplitl [H0 H1 H2 H3 H4 H5 H6 H7]
      · unfold inputs
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HS]; · iexact HS
      unfold inputs
      iintro ⟨⟨H0, H1, H2, H3, H4, H5, H6, H7⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [show (dat V c).Φ t.castSucc = cells c sc0 sc1 sc2 sc3 (stAt V c t.val) from by
        have : t.val ≠ 0 := fun h => h0 ((isFirst_iff t).mpr h)
        obtain ⟨n, hn⟩ : ∃ n, t.val = n + 1 := ⟨t.val - 1, by omega⟩
        show scratch V c t.val = _
        rw [hn]; rfl]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid1.coords t) _ _ _ _ _ _ _ _ _ _ _ _ _ (blk V c 0 t) (blk V c 1 t) (blk V c 2 t) (blk V c 3 t) (blk V c 4 t) (blk V c 5 t) (blk V c 6 t) (blk V c 7 t) (stAt V c t.val) h0 h1 Set.univ _)
      isplitl [H0 H1 H2 H3 H4 H5 H6 H7]
      · unfold inputs
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HS]; · iexact HS
      unfold inputs
      iintro ⟨⟨H0, H1, H2, H3, H4, H5, H6, H7⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_row (t : Fin cfg1.N) : defs₀ (F := F) .tc cfg1.body (cfg1.bodyArgs t (cfg1.slots t)) = bodyAt1 t := rfl

/-- The body obligation, as the pipeline's rule asks for it. -/
theorem body_obligation (c : Dev nD) : BodyObligation (dat V c) (defs₀ (F := F)) Variants.none none Set.univ := fun t => by
  rw [bigSep_W1, bigSep_W1, body_row]
  exact triple_restated (sound_body V c t) rfl .rfl fun _ => .rfl

/-- The scratch buffers at anything are the scratch before the first point, -/
theorem scratch_in (c : Dev nD) : (Pipeline.scopedRest (Ix := HIx 1) (Name := ℕ) (U := UU) (Lvl := ℕ) (Val := Elt F) spec1 c : sProp 𝕄) ⊢ (dat V c).Φ 0 := by
  rw [show (dat V c).Φ 0 = iprop(∃ s, cells c sc0 sc1 sc2 sc3 s) from rfl, scopedRest1_eq]
  unfold cells
  simp only [owns_whole]
  iintro ⟨⟨%a, Ha⟩, ⟨%b, Hb⟩, ⟨%e, He⟩, ⟨%f, Hf⟩⟩
  iexists (⟨a, b, e, f⟩ : Cells F)
  isplitl [Ha]; · iexact Ha
  isplitl [Hb]; · iexact Hb
  isplitl [He]; · iexact He
  iexact Hf

/-- and the scratch after the last point gives them back. -/
theorem scratch_out (c : Dev nD) : (dat V c).Φ (Fin.last cfg1.N) ⊢ (Pipeline.scopedRest (Ix := HIx 1) (Name := ℕ) (U := UU) (Lvl := ℕ) (Val := Elt F) spec1 c : sProp 𝕄) := by
  rw [show (dat V c).Φ (Fin.last cfg1.N) = cells c sc0 sc1 sc2 sc3 (stAt V c 200) from by
    show scratch V c (Fin.last cfg1.N).val = _
    rw [Fin.val_last, show cfg1.N = 199 + 1 from N_1]; rfl, scopedRest1_eq]
  unfold cells
  simp only [owns_whole]
  iintro ⟨Ha, Hb, He, Hf⟩
  isplitl [Ha]; · iexists _; iexact Ha
  isplitl [Hb]; · iexists _; iexact Hb
  isplitl [He]; · iexists _; iexact He
  iexists _; iexact Hf

end Cert.KernelIdeal.Pf

end
-- ==== Proof.IdealHost.lean ====
/-
  The program's host operations: three straight lines, around the SparseCore call and the TensorCore call, and what
  every buffer holds after each.
-/
module

public import proofs.«01_k».proof.Proof.IdealSplit
public import proofs.«01_k».proof.Proof.IdealLstm
public import Idealize.ShloMosaic.Lib.StableHlo.Run
public import Idealize.ShloMosaic.Lib.StableHlo.RunRead

@[expose] public section

set_option maxRecDepth 16384

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (after held tcRefs)

variable {F : FTy → Type} [FloatOps F]

local notation "𝕄" => MT nD τ sig (HIx 1) (Elt F) ℕ UU ℕ

/-- The operations before the SparseCore call: the words of the token table, transposed and flattened. -/
abbrev ops1 : List (HloOp τ sig (Elt F)) :=
  [ StableHlo.unary main_arg0 main_v0 ((transpose S200x1024 [1, 0] · transposes_S1024x200_S200x1024_1_0) : (⟨S1024x200, .i32⟩ : BufTy).Contents (Elt F) → (⟨S200x1024, .i32⟩ : BufTy).Contents (Elt F)),
    StableHlo.reshape main_v0 main_v1 (rfl : (.i32 : EltTy) = .i32) shapeCasts_S200x1024_S204800 ]

abbrev wr1 : List (Ref sig .tc) := [main_v0, main_v1]

theorem ops1_writes : (ops1 (F := F)).map HloOp.writes = wr1.map fun r => {Proc.devRef (τ := τ) .tc r} := rfl

theorem ops1_bufs : (ops1 (F := F)).Forall fun op => op.bufs ⊆ tcRefs τ sig :=
  ⟨StableHlo.unary_bufs_sub .., StableHlo.reshape_bufs_sub ..⟩

theorem ops1_fresh : ∀ op ∈ (ops1 (F := F)), op.fresh = ∅ := by
  intro op h; fin_cases h <;> rfl

/-- The operations between the two calls: the gathered rows by step, and the weights and biases of both directions scaled. -/
abbrev ops2 : List (HloOp τ sig (Elt F)) :=
  [ StableHlo.reshape main_v2 main_v3 (rfl : (.f32 : EltTy) = .f32) shapeCasts_S204800x128_S200x1024x128,
    StableHlo.unary main_arg2 main_v4 ((transpose S128x512 [1, 0] · transposes_S512x128_S128x512_1_0) : (⟨S512x128, .f32⟩ : BufTy).Contents (Elt F) → (⟨S128x512, .f32⟩ : BufTy).Contents (Elt F)),
    StableHlo.unary main_arg3 main_v5 ((transpose S128x512 [1, 0] · transposes_S512x128_S128x512_1_0) : (⟨S512x128, .f32⟩ : BufTy).Contents (Elt F) → (⟨S128x512, .f32⟩ : BufTy).Contents (Elt F)),
    StableHlo.binary main_v4 main_v5 main_v6 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
    StableHlo.binary main_arg4 main_arg5 main_v7 (addf : (⟨S512, .f32⟩ : BufTy).Contents (Elt F) → (⟨S512, .f32⟩ : BufTy).Contents (Elt F) → (⟨S512, .f32⟩ : BufTy).Contents (Elt F)),
    StableHlo.reshape main_v7 main_v8 (rfl : (.f32 : EltTy) = .f32) shapeCasts_S512_S1x512,
    StableHlo.nullary main_cst (constant S_ .f32 0x3F000000#32),
    StableHlo.unary main_cst main_v9 (broadcastInDim S128 ![] bcast_S_S128 : (⟨S_, .f32⟩ : BufTy).Contents (Elt F) → (⟨S128, .f32⟩ : BufTy).Contents (Elt F)),
    StableHlo.nullary main_cst_0 (constant S_ .f32 0x3F800000#32),
    StableHlo.unary main_cst_0 main_v10 (broadcastInDim S128 ![] bcast_S_S128 : (⟨S_, .f32⟩ : BufTy).Contents (Elt F) → (⟨S128, .f32⟩ : BufTy).Contents (Elt F)),
    StableHlo.nullary main_cst_1 (constant S_ .f32 0x3F800000#32),
    StableHlo.unary main_cst_1 main_v11 (broadcastInDim S128 ![] bcast_S_S128 : (⟨S_, .f32⟩ : BufTy).Contents (Elt F) → (⟨S128, .f32⟩ : BufTy).Contents (Elt F)),
    StableHlo.nullary main_cst_2 (constant S_ .f32 0x3F000000#32),
    StableHlo.unary main_cst_2 main_v12 (broadcastInDim S128 ![] bcast_S_S128 : (⟨S_, .f32⟩ : BufTy).Contents (Elt F) → (⟨S128, .f32⟩ : BufTy).Contents (Elt F)),
    StableHlo.nary ![main_v9, main_v10, main_v11, main_v12] main_v13 (fun u => (concatenate S512 0 [⟨S128, (u 0 : (⟨S128, .f32⟩ : BufTy).Contents (Elt F))⟩, ⟨S128, (u 1 : (⟨S128, .f32⟩ : BufTy).Contents (Elt F))⟩, ⟨S128, (u 2 : (⟨S128, .f32⟩ : BufTy).Contents (Elt F))⟩, ⟨S128, (u 3 : (⟨S128, .f32⟩ : BufTy).Contents (Elt F))⟩] concatenates_S128_S128_S128_S128_S512_d0 : (⟨S512, .f32⟩ : BufTy).Contents (Elt F))),
    StableHlo.unary main_v13 main_v14 (broadcastInDim S1x512 ![1] bcast_S512_S1x512_1 : (⟨S512, .f32⟩ : BufTy).Contents (Elt F) → (⟨S1x512, .f32⟩ : BufTy).Contents (Elt F)),
    StableHlo.unary main_v14 main_v15 (broadcastInDim S256x512 ![0, 1] bcast_S1x512_S256x512_0_1 : (⟨S1x512, .f32⟩ : BufTy).Contents (Elt F) → (⟨S256x512, .f32⟩ : BufTy).Contents (Elt F)),
    StableHlo.binary main_v6 main_v15 main_v16 (mulf : (⟨S256x512, .f32⟩ : BufTy).Contents (Elt F) → (⟨S256x512, .f32⟩ : BufTy).Contents (Elt F) → (⟨S256x512, .f32⟩ : BufTy).Contents (Elt F)),
    StableHlo.unary main_v13 main_v17 (broadcastInDim S1x512 ![1] bcast_S512_S1x512_1 : (⟨S512, .f32⟩ : BufTy).Contents (Elt F) → (⟨S1x512, .f32⟩ : BufTy).Contents (Elt F)),
    StableHlo.binary main_v8 main_v17 main_v18 (mulf : (⟨S1x512, .f32⟩ : BufTy).Contents (Elt F) → (⟨S1x512, .f32⟩ : BufTy).Contents (Elt F) → (⟨S1x512, .f32⟩ : BufTy).Contents (Elt F)),
    StableHlo.unary main_arg6 main_v19 ((transpose S128x512 [1, 0] · transposes_S512x128_S128x512_1_0) : (⟨S512x128, .f32⟩ : BufTy).Contents (Elt F) → (⟨S128x512, .f32⟩ : BufTy).Contents (Elt F)),
    StableHlo.unary main_arg7 main_v20 ((transpose S128x512 [1, 0] · transposes_S512x128_S128x512_1_0) : (⟨S512x128, .f32⟩ : BufTy).Contents (Elt F) → (⟨S128x512, .f32⟩ : BufTy).Contents (Elt F)),
    StableHlo.binary main_v19 main_v20 main_v21 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
    StableHlo.binary main_arg8 main_arg9 main_v22 (addf : (⟨S512, .f32⟩ : BufTy).Contents (Elt F) → (⟨S512, .f32⟩ : BufTy).Contents (Elt F) → (⟨S512, .f32⟩ : BufTy).Contents (Elt F)),
    StableHlo.reshape main_v22 main_v23 (rfl : (.f32 : EltTy) = .f32) shapeCasts_S512_S1x512,
    StableHlo.nullary main_cst_3 (constant S_ .f32 0x3F000000#32),
    StableHlo.unary main_cst_3 main_v24 (broadcastInDim S128 ![] bcast_S_S128 : (⟨S_, .f32⟩ : BufTy).Contents (Elt F) → (⟨S128, .f32⟩ : BufTy).Contents (Elt F)),
    StableHlo.nullary main_cst_4 (constant S_ .f32 0x3F800000#32),
    StableHlo.unary main_cst_4 main_v25 (broadcastInDim S128 ![] bcast_S_S128 : (⟨S_, .f32⟩ : BufTy).Contents (Elt F) → (⟨S128, .f32⟩ : BufTy).Contents (Elt F)),
    StableHlo.nullary main_cst_5 (constant S_ .f32 0x3F800000#32),
    StableHlo.unary main_cst_5 main_v26 (broadcastInDim S128 ![] bcast_S_S128 : (⟨S_, .f32⟩ : BufTy).Contents (Elt F) → (⟨S128, .f32⟩ : BufTy).Contents (Elt F)),
    StableHlo.nullary main_cst_6 (constant S_ .f32 0x3F000000#32),
    StableHlo.unary main_cst_6 main_v27 (broadcastInDim S128 ![] bcast_S_S128 : (⟨S_, .f32⟩ : BufTy).Contents (Elt F) → (⟨S128, .f32⟩ : BufTy).Contents (Elt F)),
    StableHlo.nary ![main_v24, main_v25, main_v26, main_v27] main_v28 (fun u => (concatenate S512 0 [⟨S128, (u 0 : (⟨S128, .f32⟩ : BufTy).Contents (Elt F))⟩, ⟨S128, (u 1 : (⟨S128, .f32⟩ : BufTy).Contents (Elt F))⟩, ⟨S128, (u 2 : (⟨S128, .f32⟩ : BufTy).Contents (Elt F))⟩, ⟨S128, (u 3 : (⟨S128, .f32⟩ : BufTy).Contents (Elt F))⟩] concatenates_S128_S128_S128_S128_S512_d0 : (⟨S512, .f32⟩ : BufTy).Contents (Elt F))),
    StableHlo.unary main_v28 main_v29 (broadcastInDim S1x512 ![1] bcast_S512_S1x512_1 : (⟨S512, .f32⟩ : BufTy).Contents (Elt F) → (⟨S1x512, .f32⟩ : BufTy).Contents (Elt F)),
    StableHlo.unary main_v29 main_v30 (broadcastInDim S256x512 ![0, 1] bcast_S1x512_S256x512_0_1 : (⟨S1x512, .f32⟩ : BufTy).Contents (Elt F) → (⟨S256x512, .f32⟩ : BufTy).Contents (Elt F)),
    StableHlo.binary main_v21 main_v30 main_v31 (mulf : (⟨S256x512, .f32⟩ : BufTy).Contents (Elt F) → (⟨S256x512, .f32⟩ : BufTy).Contents (Elt F) → (⟨S256x512, .f32⟩ : BufTy).Contents (Elt F)),
    StableHlo.unary main_v28 main_v32 (broadcastInDim S1x512 ![1] bcast_S512_S1x512_1 : (⟨S512, .f32⟩ : BufTy).Contents (Elt F) → (⟨S1x512, .f32⟩ : BufTy).Contents (Elt F)),
    StableHlo.binary main_v23 main_v32 main_v33 (mulf : (⟨S1x512, .f32⟩ : BufTy).Contents (Elt F) → (⟨S1x512, .f32⟩ : BufTy).Contents (Elt F) → (⟨S1x512, .f32⟩ : BufTy).Contents (Elt F)),
    StableHlo.reshape main_arg11 main_v34 (rfl : (.f32 : EltTy) = .f32) shapeCasts_S1_S1x1 ]

abbrev wr2 : List (Ref sig .tc) := [main_v3, main_v4, main_v5, main_v6, main_v7, main_v8, main_cst, main_v9, main_cst_0, main_v10, main_cst_1, main_v11, main_cst_2, main_v12, main_v13, main_v14, main_v15, main_v16, main_v17, main_v18, main_v19, main_v20, main_v21, main_v22, main_v23, main_cst_3, main_v24, main_cst_4, main_v25, main_cst_5, main_v26, main_cst_6, main_v27, main_v28, main_v29, main_v30, main_v31, main_v32, main_v33, main_v34]

theorem ops2_writes : (ops2 (F := F)).map HloOp.writes = wr2.map fun r => {Proc.devRef (τ := τ) .tc r} := rfl

theorem ops2_bufs : (ops2 (F := F)).Forall fun op => op.bufs ⊆ tcRefs τ sig :=
  ⟨StableHlo.reshape_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nary_bufs_sub .., StableHlo.unary_bufs_sub .., StableHlo.unary_bufs_sub .., StableHlo.binary_bufs_sub .., StableHlo.unary_bufs_sub .., StableHlo.binary_bufs_sub .., StableHlo.reshape_bufs_sub ..⟩

theorem ops2_fresh : ∀ op ∈ (ops2 (F := F)), op.fresh = ∅ := by
  intro op h; fin_cases h <;> rfl

/-- The operations after the TensorCore call: the first lane of the result. -/
abbrev ops3 : List (HloOp τ sig (Elt F)) :=
  [ StableHlo.unary main_v35 main_v36 ((extractStridedSlice S1024x1 ![0, 0] · slices_S1024x128_S1024x1_0_0) : (⟨S1024x128, .f32⟩ : BufTy).Contents (Elt F) → (⟨S1024x1, .f32⟩ : BufTy).Contents (Elt F)),
    StableHlo.reshape main_v36 main_v37 (rfl : (.f32 : EltTy) = .f32) shapeCasts_S1024x1_S1024 ]

abbrev wr3 : List (Ref sig .tc) := [main_v36, main_v37]

theorem ops3_writes : (ops3 (F := F)).map HloOp.writes = wr3.map fun r => {Proc.devRef (τ := τ) .tc r} := rfl

theorem ops3_bufs : (ops3 (F := F)).Forall fun op => op.bufs ⊆ tcRefs τ sig :=
  ⟨StableHlo.unary_bufs_sub .., StableHlo.reshape_bufs_sub ..⟩

theorem ops3_fresh : ∀ op ∈ (ops3 (F := F)), op.fresh = ∅ := by
  intro op h; fin_cases h <;> rfl

/-- The program: the three lines around the two calls. -/
theorem main_eq (d : Dev nD) :
    main (F := F) d = (StableHlo.seq ops1 >>= fun _ => sc.run d 0 >>= fun _ => StableHlo.seq ops2 >>= fun _ =>
      Prog.lift (.customCall (SparseCore.inner (Pipeline.entry 0)) ()) >>= fun _ => StableHlo.seq ops3 >>= fun _ => pure ⟨⟩) := by
  simp only [main, StableHlo.seq, bind_assoc, pure_bind]

/-! ## The buffers the thread holds -/

/-- The TensorCore's unscoped references. -/
def refs : Finset (DevRef τ sig) := (tcRefs τ sig).filter fun b => ¬ b.isScoped

theorem mem_refs (b : Ref sig .tc) (h : b.isScoped = false) : (Proc.devRef .tc b : DevRef τ sig) ∈ refs :=
  Finset.mem_filter.mpr ⟨StableHlo.devRef_mem_tcRefs b, fun h' => Bool.false_ne_true (h.symm.trans h')⟩

theorem refs_of {ops : List (HloOp τ sig (Elt F))} (h : ops.Forall fun op => op.bufs ⊆ tcRefs τ sig) :
    ∀ op ∈ ops, op.bufs ⊆ refs := fun op hop b hb =>
  Finset.mem_filter.mpr ⟨(List.forall_iff_forall_mem.mp h) op hop hb, fun h' => Bool.false_ne_true ((op.no_scoped b hb).symm.trans h')⟩

theorem bufs_held (c : Dev nD) (W : Valuation τ sig (Elt F)) :
    (unscopedBufs c (fun b => W b) : sProp 𝕄) = held (c : Thread nD τ) refs W := by
  unfold unscopedBufs held refs tcRefs
  rw [Finset.filter_map, bigSep_map]
  rfl

/-! ## The contents along the run -/

variable (m : (ℓ : Loc nD τ sig) → Buf (Elt F) ℓ)

/-- At the launch, -/
def W0 (d : Dev nD) : Valuation τ sig (Elt F) := fun b => m (d, b)
/-- before the SparseCore call, -/
def W1 (d : Dev nD) : Valuation τ sig (Elt F) := after ops1 (W0 m d)
/-- the words and the table the call reads, -/
def tokens (d : Dev nD) : Buf (Elt F) (iLoc d) := W1 m d main_v1
def table (d : Dev nD) : Buf (Elt F) (xLoc d) := W1 m d main_arg1
/-- after the call: the gathered rows in its result, -/
def W2 (d : Dev nD) : Valuation τ sig (Elt F) := Function.update (W1 m d) (Proc.devRef .tc main_v2) (tgt (tokens m) (table m) d)
/-- before the TensorCore call, -/
def W3 (d : Dev nD) : Valuation τ sig (Elt F) := after ops2 (W2 m d)
abbrev V3 : (d : Dev nD) → (b : Ref sig .tc) → Buf (Elt F) ((d : Thread nD τ).loc b) := fun d b => W3 m d b
/-- what the TensorCore call leaves in its result, -/
def lstmOut (d : Dev nD) : Buf (Elt F) ((d : Thread nD τ).loc main_v35) := (dat (V3 m) d).arrAt 8 cfg1.N
/-- after it, -/
def W4 (d : Dev nD) : Valuation τ sig (Elt F) := Function.update (W3 m d) (Proc.devRef .tc main_v35) (lstmOut m d)
/-- and at the end. -/
def W5 (d : Dev nD) : Valuation τ sig (Elt F) := after ops3 (W4 m d)

/-- What no line and no call writes is at the end what it was at the launch. -/
theorem W5_kept (d : Dev nD) (b : Ref sig .tc) (h1 : b ∉ wr1) (h2 : b ∉ wr2) (h3 : b ∉ wr3) (h4 : b ≠ main_v2) (h5 : b ≠ main_v35) :
    W5 m d b = m ((d : Thread nD τ).loc b) := by
  unfold W5 W4 W3 W2 W1
  rw [StableHlo.after_unwritten wr3 ops3_writes h3, Function.update_of_ne (StableHlo.devRef_ne_of_ne h5),
    StableHlo.after_unwritten wr2 ops2_writes h2, Function.update_of_ne (StableHlo.devRef_ne_of_ne h4),
    StableHlo.after_unwritten wr1 ops1_writes h1]
  rfl

/-- Every token word of the launch memory names a row of the table. -/
def PreOK : Prop := ∀ (d : Dev nD) (j : S1024x200.Idx), (m ((d : Thread nD τ).loc main_arg0) j).toNat < 100000

theorem tokens_eq (d : Dev nD) : tokens m d = shapeCast S204800
    (transpose S200x1024 [1, 0] (m ((d : Thread nD τ).loc main_arg0)) transposes_S1024x200_S200x1024_1_0) shapeCasts_S200x1024_S204800 := by
  unfold tokens W1
  after_results
  rfl

theorem table_eq (d : Dev nD) : table m d = m ((d : Thread nD τ).loc main_arg1) :=
  StableHlo.after_unwritten wr1 ops1_writes (by decide) _

theorem inRange (h : PreOK m) : InRange (tokens m) := by
  intro d j
  rw [tokens_eq]
  exact h d _

end Cert.KernelIdeal.Pf

end
-- ==== Proof.IdealMain.lean ====
/-
  The program's run. The main thread runs its three lines of host operations around the two calls: the SparseCore call
  takes the tokens, the table and the call's result and hands them back with the gathered rows in place; the
  TensorCore call is the pipelined recurrence over the buffers as the second line leaves them.
-/
module

public import proofs.«01_k».proof.Proof.IdealHost
public import Idealize.ShloMosaic.Lib.Pipeline.Regions
public import Idealize.ShloMosaic.Lib.Pipeline.RegionsLoop
public import Idealize.ShloMosaic.Lib.SparseCore.Quiescent

@[expose] public section

set_option maxRecDepth 16384

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (after held tcRefs)
open Idealize.ShloMosaic.Pipeline (Dat)

variable {F : FTy → Type} [FloatOps F]

local notation "𝕄" => MT nD τ sig (HIx 1) (Elt F) ℕ UU ℕ

/-! ## The TensorCore call over the thread's buffers -/

section Region

variable (V : (c : Dev nD) → (b : Ref sig .tc) → Buf (Elt F) ((c : Thread nD τ).loc b))
variable (V' : (c : Dev nD) → (b : Ref sig .tc) → Buf (Elt F) ((c : Thread nD τ).loc b))

def pdats : (p : Fin 1) → (c : Dev nD) → Dat τ (Elt F) (HIx 1) ℕ UU ℕ (Pipeline.pin (pcfgs (F := F)) adm p) c :=
  fun _ c => dat V c

/-- What the thread owes between the calls: nothing, with every recorded wait low. -/
abbrev idle (c : Dev nD) : sProp 𝕄 :=
  iprop(∃ W, ⌜(K (F := F)).WBelow (T c) W 8⌝ ∗ owes (c : Thread nD τ) (0 : CellTallies nD τ sig (HIx 1)) W)

theorem idle_in (c : Dev nD) : (idle c : sProp 𝕄) ⊢ (dat V c).owesAt none 0 := by
  unfold Pipeline.Dat.owesAt Pipeline.owesWithin
  iintro ⟨%W, %hW, HO⟩
  iexists W
  isplitr
  · ipureintro; exact fun p hp => Or.inl (hW p hp)
  iexact HO

theorem idle_out (c : Dev nD) : (dat V c).owesAt none (Fin.last cfg1.N) ⊢ (idle c : sProp 𝕄) := by
  unfold Pipeline.Dat.owesAt Pipeline.owesWithin
  iintro ⟨%W, %hW, HO⟩
  iexists W
  isplitr
  · ipureintro
    intro p hp
    rcases hW hp with h | ⟨w, s, rfl⟩
    · exact h
    · exact Nat.zero_le _
  iexact HO

set_option backward.isDefEq.respectTransparency.types false in
/-- The call as a region: entered with every unscoped buffer at `V`, left with them at any `V'` that has the call's
    result at what the pipeline writes back and agrees with `V` elsewhere. -/
def reg (hout : ∀ c, V' c main_v35 = (dat V c).arrAt 8 cfg1.N) (hne : ∀ c (b : Ref sig .tc), b ≠ main_v35 → V' c b = V c b) :
    Pipeline.RegionSeg (pcfgs (F := F)) adm (pdats V) none defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (V' c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs_shared (p := 0) (pcfgs (F := F)) adm (pdats V) winFacts₀1 sharedIn1 arr_whole1 c
      (fun w _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (idle_in V c); iexact HO
    isplitr; · iempintro
    iexact Hrest
  hin c := by
    rw [show (pdats V 0 c).Φ 0 = (dat V c).Φ 0 from rfl]
    iintro ⟨-, -, Hr⟩; iapply (scratch_in V c); iexact Hr
  hout c := by
    rw [Pipeline.ownSems0_none, show (pdats V 0 c).Φ (Fin.last _) = (dat V c).Φ (Fin.last cfg1.N) from rfl]
    iintro Hr
    isplitr; · iempintro
    isplitr; · iempintro
    iapply (scratch_out V c); iexact Hr
  hexit c := by
    have hjoin := Pipeline.unscopedBufs_of_arrays_shared (p := 0) (pcfgs (F := F)) adm (Ix := HIx 1) (Name := ℕ) (U := UU) (Lvl := ℕ) winFacts₀1 sharedIn1 arr_whole1 c
      (pdats V) (fun w _ => rfl) (V c) (V' c) ((pdats V 0 c).arrAt · cfg1.N)
      (fun w => by
        fin_cases w
        · exact ((dat V c).arrAt_in 0 rfl _).trans (hne c main_v3 (by decide)).symm
        · exact ((dat V c).arrAt_in 1 rfl _).trans (hne c main_v3 (by decide)).symm
        · exact ((dat V c).arrAt_in 2 rfl _).trans (hne c main_v16 (by decide)).symm
        · exact ((dat V c).arrAt_in 3 rfl _).trans (hne c main_v31 (by decide)).symm
        · exact ((dat V c).arrAt_in 4 rfl _).trans (hne c main_v18 (by decide)).symm
        · exact ((dat V c).arrAt_in 5 rfl _).trans (hne c main_v33 (by decide)).symm
        · exact ((dat V c).arrAt_in 6 rfl _).trans (hne c main_arg10 (by decide)).symm
        · exact ((dat V c).arrAt_in 7 rfl _).trans (hne c main_v34 (by decide)).symm
        · exact (hout c).symm)
      (fun b hb => hne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    iapply (idle_out V c); iexact HO

end Region

/-! ## The launch element of the ghost state -/

abbrev pin₁ := Pipeline.pin (pcfgs (F := F)) adm

def u₀ : UU := (initOf (K (F := F)).hsCells (K (F := F)).hsToks,
  (initOf (Pipeline.cells (pin₁ (F := F)) phinj) (Pipeline.launchToks (pin₁ (F := F)) phinj), 1))

/-- What the TensorCore call needs of it on each device. -/
abbrev G (d : Dev nD) : sProp 𝕄 :=
  iprop(Pipeline.cellsGhost (pin₁ (F := F)) EP 0 d ∗ Pipeline.toksInit (pin₁ (F := F)) EP 0 d)

variable (m : (ℓ : Loc nD τ sig) → Buf (Elt F) ℓ) (ρ : Dev nD → PrngReg)

theorem bigSep_none {A : Type} (s : Finset A) : (bigSep s fun _ => iprop(emp)) = (iprop(emp) : sProp 𝕄) := bigSep_emp_const s

/-- Ownership through the pipeline's embedding is ownership of its place in the pair. -/
theorem EP_own (u : UP) : (BI.own (EP (F := F) u) : sProp 𝕄) = BI.own (((Emb.inl : Emb UP (UP × Counters)).trans embR) u) := rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tokens m) (table m)).x q thr) := by
  unfold u₀
  iintro Hu
  ihave H := (ownU_pair (initOf (K (F := F)).hsCells (K (F := F)).hsToks) _) $$ Hu
  icases H with ⟨HH, HR⟩
  ihave H := (own_pair_emb (embR (nD := nD) (sig := sig) (Ix := HIx 1) (Val := Elt F) (Name := ℕ) (Lvl := ℕ)) _ (1 : Counters)) $$ HR
  icases H with ⟨HP, -⟩
  ihave HP := (Entails.of_eq (EP_own _).symm) $$ HP
  imod (Pipeline.fund_ghost (pin₁ (F := F)) (EP (F := F)) phinj) $$ HP with ⟨Hg, Ht⟩
  imodintro
  isplitl [HH]; · iexact HH
  isplitl [Hg Ht]
  · rw [show (bigSep Finset.univ fun d : Dev nD => (G d : sProp 𝕄)) = iprop((bigSep Finset.univ fun d : Dev nD => Pipeline.cellsGhost (pin₁ (F := F)) EP 0 d)
      ∗ bigSep Finset.univ fun d : Dev nD => Pipeline.toksInit (pin₁ (F := F)) EP 0 d) from bigSep_sep' ..]
    simp only [bigSep_univ_of_subsingleton (0 : Fin 1)]
    isplitl [Hg] <;> iassumption
  rw [show (bigSep Finset.univ fun thr : Thread nD τ => bigSep Finset.univ fun q : Fin 1 => (P (F := F) (tokens m) (table m)).x q thr) = bigSep Finset.univ fun _ => iprop(emp) from
    bigSep_congr fun _ _ => bigSep_univ_of_subsingleton (0 : Fin 1), bigSep_none]
  iempintro

/-! ## The three buffers of the SparseCore call -/

def callRefs : Finset (DevRef τ sig) := {Proc.devRef .tc main_v1, Proc.devRef .tc main_arg1, Proc.devRef .tc main_v2}

theorem callRefs_sub : callRefs ⊆ refs := by
  intro b hb
  simp only [callRefs, Finset.mem_insert, Finset.mem_singleton] at hb
  rcases hb with rfl | rfl | rfl <;> exact mem_refs _ rfl

theorem held_call (d : Dev nD) (W : Valuation τ sig (Elt F)) : (held (d : Thread nD τ) callRefs W : sProp 𝕄)
    = iprop((iLoc d ↦{fullShare} W main_v1) ∗ (xLoc d ↦{fullShare} W main_arg1) ∗ oLoc d ↦{fullShare} W main_v2) := by
  unfold held callRefs
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by simp only [Finset.mem_singleton]; exact StableHlo.devRef_ne_of_ne (by decide)), bigSep_singleton]

/-- The call's buffers out of the thread's, -/
theorem call_in (d : Dev nD) : (held (d : Thread nD τ) refs (W1 m d) : sProp 𝕄)
    ⊢ iprop((bigSep Finset.univ fun c => (P (tokens m) (table m)).st 0 d c) ∗ held (d : Thread nD τ) (refs \ callRefs) (W1 m d)) := by
  rw [StableHlo.held_sub_split (d : Thread nD τ) callRefs_sub, held_call]
  exact sep_mono (st_of_whole (tokens m) (table m) d _) .rfl

/-- and back, with the gathered rows in its result. -/
theorem call_out (d : Dev nD) : iprop((bigSep Finset.univ fun c => (P (tokens m) (table m)).dn 0 d c) ∗ held (d : Thread nD τ) (refs \ callRefs) (W1 m d))
    ⊢ (held (d : Thread nD τ) refs (W2 m d) : sProp 𝕄) := by
  rw [StableHlo.held_sub_split (d : Thread nD τ) callRefs_sub (W2 m d), held_call]
  refine BIClass.sep_mono ((whole_of_dn (tokens m) (table m) d).trans (Entails.of_eq ?_)) (Entails.of_eq (StableHlo.held_congr (d : Thread nD τ) fun b hb => ?_))
  · rw [show W2 m d main_v1 = tokens m d from Function.update_of_ne (StableHlo.devRef_ne_of_ne (by decide)) ..,
      show W2 m d main_arg1 = table m d from Function.update_of_ne (StableHlo.devRef_ne_of_ne (by decide)) ..,
      show W2 m d main_v2 = tgt (tokens m) (table m) d from Function.update_self ..]
  · refine (Function.update_of_ne (fun h => (Finset.mem_sdiff.mp hb).2 ?_) ..).symm
    rw [h]; simp [callRefs]

/-! ## The main thread -/

abbrev FIN (d : Dev nD) : sProp 𝕄 := held (d : Thread nD τ) refs (W5 m d)

theorem V4_out (d : Dev nD) : W4 m d main_v35 = (dat (V3 m) d).arrAt 8 cfg1.N := Function.update_self ..
theorem V4_ne (d : Dev nD) (b : Ref sig .tc) (h : b ≠ main_v35) : W4 m d b = V3 m d b :=
  Function.update_of_ne (StableHlo.devRef_ne_of_ne h) ..

abbrev reg₁ := reg (V3 m) (fun d b => W4 m d b) (V4_out m) (V4_ne m)

theorem call_entry (d : Dev nD) (Q : PUnit → sProp 𝕄) :
    iprop((iprop(boundary (d : Thread nD τ) ∗ held (d : Thread nD τ) refs (W4 m d) ∗ idle d) -∗ Q ⟨⟩)
        ∗ boundary (d : Thread nD τ) ∗ (held (d : Thread nD τ) refs (W3 m d) ∗ idle d) ∗ levAts (K (F := F)).L (K (F := F)).lev ∗ G d)
      ⊢ iprop((iprop(boundary (d : Thread nD τ) ∗ (reg₁ m).post d)
          -∗ wp frame (wpE (D (F := F)) 𝒱 (d : Thread nD τ) none) Set.univ (.ret ⟨⟩) Q)
        ∗ boundary (d : Thread nD τ) ∗ (reg₁ m).pre d ∗ levAts (K (F := F)).L (K (F := F)).lev
        ∗ Pipeline.cellsGhost (pin₁ (F := F)) EP 0 d ∗ Pipeline.toksInit (pin₁ (F := F)) EP 0 d) := by
  rw [show (reg₁ m).post d = iprop(unscopedBufs d (fun b => W4 m d b) ∗ idle d) from rfl,
    show (reg₁ m).pre d = iprop(unscopedBufs d (fun b => W3 m d b) ∗ idle d) from rfl,
    bufs_held, bufs_held]
  iintro ⟨Hk, Hb, Hp, Hl, Hg⟩
  isplitl [Hk]
  · iintro H
    rw [wp_ret]
    imodintro
    iapply Hk; iexact H
  isplitl [Hb]; · iexact Hb
  isplitl [Hp]; · iexact Hp
  isplitl [Hl]; · iexact Hl
  iexact Hg

/-- The TensorCore call in the main thread's signature. -/
theorem wp_call (d : Dev nD) (Q : PUnit → sProp 𝕄) :
    iprop((iprop(boundary (d : Thread nD τ) ∗ held (d : Thread nD τ) refs (W4 m d) ∗ idle d) -∗ Q ⟨⟩)
        ∗ boundary (d : Thread nD τ) ∗ (held (d : Thread nD τ) refs (W3 m d) ∗ idle d) ∗ levAts (K (F := F)).L (K (F := F)).lev ∗ G d)
      ⊢ wp frame (wpE ((K (F := F)).defs (D (F := F))) 𝒱 (T d) none) Set.univ
          (Prog.lift (.customCall (SparseCore.inner (Pipeline.entry 0)) ())) Q := by
  have h := Pipeline.RegionSeg.wp (pcfgs (F := F)) adm (pdats (V3 m)) none phinj EP defs₀ 𝒱₀ (K (F := F)).L (K (F := F)).lev
    (reg (V3 m) (fun d b => W4 m d b) (V4_out m) (V4_ne m)) d none (fun _ h => nomatch h) (fun _ => .ret ⟨⟩) Q
  have h2 := (K (F := F)).wp_liftProg (D (F := F)) 𝒱 (T d) Set.univ none (.op (.customCall (Pipeline.entry 0) ()) fun _ => .ret ⟨⟩) Q
  refine BI.Entails.trans (call_entry m d Q) (h.trans h2)

/-- The thread's state after the SparseCore call is its idle `owes` beside the rest of it. -/
theorem tcSt_one (d : Dev nD) : ((K (F := F)).tcSt EH d 1 : sProp 𝕄) = iprop(idle d
    ∗ atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1))) := by
  unfold SparseCore.Cfg.tcSt
  rw [(K (F := F)).Otc_end d (by decide : 1 ≤ 1)]
  rfl

theorem held_line1 (d : Dev nD) : (held (d : Thread nD τ) refs (after ops1 (W0 m d)) : sProp 𝕄) = held (d : Thread nD τ) refs (W1 m d) := rfl
theorem held_line2 (d : Dev nD) : (held (d : Thread nD τ) refs (after ops2 (W2 m d)) : sProp 𝕄) = held (d : Thread nD τ) refs (W3 m d) := rfl
theorem held_line3 (d : Dev nD) : (held (d : Thread nD τ) refs (after ops3 (W4 m d)) : sProp 𝕄) = held (d : Thread nD τ) refs (W5 m d) := rfl

theorem tcSt_next (d : Dev nD) : ((K (F := F)).tcSt EH d ((0 : Fin 1).val + 1) : sProp 𝕄) = (K (F := F)).tcSt EH d 1 := rfl

theorem bufs_start (d : Dev nD) :
    (unscopedBufs d (fun b => m ((d.tc : Thread nD τ).loc b)) : sProp 𝕄) = held (d : Thread nD τ) refs (W0 m d) :=
  bufs_held d (W0 m d)

theorem hmain (κ : GSem nD τ sig → ℕ) (d : Dev nD) :
    iprop((K (F := F)).ctx EH (P (tokens m) (table m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, bufs_start m d]
  iintro ⟨#Hctx, Hst, ⟨Hb, Hub, Hts, -⟩, HG⟩
  iapply (StableHlo.wp_seq 𝒱 none Set.univ d refs _ ops1 (refs_of ops1_bufs) ops1_fresh (W0 m d)) $$ [Hb Hub]
  · isplitl [Hb] <;> iassumption
  iintro ⟨Hb, Hub⟩
  rw [wp_bind]
  ihave Hub := (Entails.of_eq (held_line1 m d)) $$ Hub
  ihave H := (call_in m d) $$ Hub
  icases H with ⟨Hcall, Hrest⟩
  iapply ((K (F := F)).wp_run (D (F := F)) 𝒱 (EH := EH) (P := P (tokens m) (table m)) κ d 0) $$ [Hst Hcall Hrest Hb Hts HG]
  isplitr; · iexact Hctx
  isplitl [Hst]; · iexact Hst
  isplitl [Hcall]; · iexact Hcall
  iintro ⟨Hst, Hdn⟩
  ihave Hub := (call_out m d) $$ [Hdn Hrest]
  · isplitl [Hdn] <;> iassumption
  iapply (StableHlo.wp_seq 𝒱 none Set.univ d refs _ ops2 (refs_of ops2_bufs) ops2_fresh (W2 m d)) $$ [Hb Hub]
  · isplitl [Hb] <;> iassumption
  iintro ⟨Hb, Hub⟩
  rw [wp_bind]
  ihave Hub := (Entails.of_eq (held_line2 m d)) $$ Hub
  ihave Hst := (Entails.of_eq (tcSt_next d)) $$ Hst
  ihave Hst := (Entails.of_eq (tcSt_one d)) $$ Hst
  icases Hst with ⟨HO, Hst⟩
  ihave Hl := (SparseCore.Cfg.ctx_levAts κ) $$ Hctx
  iapply (wp_call m d)
  isplitl [Hst Hts]
  · iintro ⟨Hb, Hub, HO⟩
    iapply (StableHlo.wp_seq 𝒱 none Set.univ d refs _ ops3 (refs_of ops3_bufs) ops3_fresh (W4 m d)) $$ [Hb Hub]
    · isplitl [Hb] <;> iassumption
    iintro ⟨Hb, Hub⟩
    rw [wp_pure]
    imodintro
    isplitl [HO Hst]
    · iapply (Entails.of_eq (tcSt_one d).symm)
      isplitl [HO] <;> iassumption
    isplitl [Hub]; · iapply (Entails.of_eq (held_line3 m d)); iexact Hub
    isplitl [Hb] <;> iassumption
  isplitl [Hb]; · iexact Hb
  isplitl [Hub HO]; · isplitl [Hub] <;> iassumption
  isplitl [Hl]; · iexact Hl
  iexact HG

/-! ## The run -/

def fq (d : Dev nD) (s' : Phys nD τ sig (Elt F)) : Prop := ∀ b ∈ (refs : Finset (DevRef τ sig)), s'.mem.mem (d, b) = W5 m d b

theorem hfin (d : Dev nD) (s' : Phys nD τ sig (Elt F)) : iprop(FIN m d ∗ SI s') ⊢ (⌜fq m d s'⌝ : sProp 𝕄) := by
  unfold FIN held
  iintro H
  ihave H := (pointsTo_read_all refs (fun b => (d, b)) (fun b => W5 m d b) s') $$ H
  icases H with ⟨%h, -⟩
  ipureintro; exact h

def QC : PUnit × MemSt nD τ sig (Elt F) → Prop := fun r =>
  (∀ (d : Dev nD) (b : DevRef τ sig), b ∈ refs → r.2.mem (d, b) = W5 m d b) ∧ r.2.sem = fun _ => 0

/-- From a launch memory whose tokens name rows, the program runs to its end with every semaphore at zero and every
    unscoped buffer of the TensorCore at the contents computed along the run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tokens m) (table m)) (A := ∅) kfacts v₀
    (fun q hq => match q with | 0 => nomatch hq)
    (fun q _ => match q with | 0 => tileObl (tokens m) (table m) kfacts (inRange m hpre))
    (fun q _ => match q with | 0 => SparseCore.Cfg.VecSplit.of_plain (vecSplit (tokens m) (table m)))
    m ρ main (fun d => G d) (FIN m) (u₀ (F := F)) (sep_elim_left.trans (hu₀ m)) (hmain m ρ) (fq m) (hfin m) (QC m) (fun _ h hz => ⟨h, hz⟩)

end Cert.KernelIdeal.Pf

end
-- ==== Proof.Ref.lean ====
/-
  The reference program's run: the look-up of the rows, then two counted loops of two hundred trips each, one per
  direction, and the last linear layer. Each straight line of host operations is a list; each loop is its condition's
  two operations and its body's line; what every buffer holds at each boundary is a valuation.
-/
module

public import proofs.«01_k».proof.Proof.Gen.ReferenceIdeal
public import Idealize.ShloMosaic.Lib.Pipeline.RegionsLoop
public import Idealize.ShloMosaic.Lib.Pipeline.RegionsOwned
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

@[expose] public section

set_option maxRecDepth 16384

noncomputable section

namespace Cert.ReferenceIdeal.Pf

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after held tcRefs atTrip afterL Plain LoopCond loopSeg)

variable {F : FTy → Type} [FloatOps F]

local notation "𝕄" => MT nD τ sig Unit (Elt F) ℕ (Option PUnit) ℕ

/-- The operations that look the rows up. -/
abbrev opsT : List (HloOp τ sig (Elt F)) :=
  [ StableHlo.TRef.nullary main_call0.c (constantI S_ 32 0#32),
    StableHlo.TRef.unary main_call0.c main_call0.v0 (broadcastInDim S1024x200 ![] bcast_S_S1024x200),
    StableHlo.TRef.binary (.of main_arg0 : StableHlo.TRef sig ⟨S1024x200, .i32⟩) main_call0.v0 main_call0.v1 (cmpi .slt),
    StableHlo.TRef.nullary main_call0.c_0 (constantI S_ 32 100000#32),
    StableHlo.TRef.unary main_call0.c_0 main_call0.v2 (broadcastInDim S1024x200 ![] bcast_S_S1024x200),
    StableHlo.TRef.binary (.of main_arg0 : StableHlo.TRef sig ⟨S1024x200, .i32⟩) main_call0.v2 main_call0.v3 addi,
    StableHlo.TRef.ternary main_call0.v1 main_call0.v3 (.of main_arg0 : StableHlo.TRef sig ⟨S1024x200, .i32⟩) main_call0.call0.v0 select,
    StableHlo.TRef.unary main_call0.call0.v0 main_call0.v5 (broadcastInDim S1024x200x1 ![0, 1] bcast_S1024x200_S1024x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S1024x200x1 ![] bcast_S_S1024x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x200x1 ![0, 1, 2] bcast_S1x1x1_S1024x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x200x1_S1024x200_d2 h_S_),
    StableHlo.TRef.binary (.of main_arg1 : StableHlo.TRef sig ⟨S100000x128, .f32⟩) main_call0.v5 main_call0.v13 (fun x i => Host.gather gather_S100000x128_S1024x200x1_S1024x200x128_2_0_n_n_0_2_1128 x i),
    StableHlo.TRef.unary main_call0.v12 main_call0.v14 (broadcastInDim S1024x200x128 ![0, 1] bcast_S1024x200_S1024x200x128_0_1),
    StableHlo.TRef.nullary main_call0.cst (constant S_ .f32 0x7FC00000#32),
    StableHlo.TRef.unary main_call0.cst main_call0.v15 (broadcastInDim S1024x200x128 ![] bcast_S_S1024x200x128),
    StableHlo.TRef.ternary main_call0.v14 main_call0.v13 main_call0.v15 main_call0.v16 select ]

/-- The buffers they write, in order. -/
abbrev wrT : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem opsT_writes : (opsT (F := F)).map HloOp.writes = wrT.map fun r => {Proc.devRef (τ := τ) .tc r} := rfl

theorem opsT_bufs : (opsT (F := F)).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem opsT_fresh : (opsT (F := F)).Forall fun op => op.fresh = ∅ := by
  simp only [List.Forall]; repeat' constructor

/-- The operations from the look-up to the first loop. -/
abbrev opsA : List (HloOp τ sig (Elt F)) :=
  [ StableHlo.unary main_v0 main_v1 ((transpose S200x1024x128 [1, 0, 2] · transposes_S1024x200x128_S200x1024x128_1_0_2) : (⟨S1024x200x128, .f32⟩ : BufTy).Contents (Elt F) → (⟨S200x1024x128, .f32⟩ : BufTy).Contents (Elt F)),
    StableHlo.nullary main_cst (constant S_ .f32 0x00000000#32),
    StableHlo.unary main_cst main_v2 (broadcastInDim S1024x128 ![] bcast_S_S1024x128 : (⟨S_, .f32⟩ : BufTy).Contents (Elt F) → (⟨S1024x128, .f32⟩ : BufTy).Contents (Elt F)),
    StableHlo.nullary main_cst_0 (constant S_ .f32 0x00000000#32),
    StableHlo.unary main_cst_0 main_v3 (broadcastInDim S1024x128 ![] bcast_S_S1024x128 : (⟨S_, .f32⟩ : BufTy).Contents (Elt F) → (⟨S1024x128, .f32⟩ : BufTy).Contents (Elt F)),
    StableHlo.nullary main_c (constantI S_ 32 0#32),
    StableHlo.unary main_v1 main_v4_0 id,
    StableHlo.unary main_arg2 main_v4_1 id,
    StableHlo.unary main_arg3 main_v4_2 id,
    StableHlo.unary main_arg4 main_v4_3 id,
    StableHlo.unary main_arg5 main_v4_4 id,
    StableHlo.unary main_c main_v4_5 id,
    StableHlo.unary main_v2 main_v4_6 id,
    StableHlo.unary main_v3 main_v4_7 id ]

/-- The buffers they write, in order. -/
abbrev wrA : List (Ref sig .tc) := [main_v1, main_cst, main_v2, main_cst_0, main_v3, main_c, main_v4_0, main_v4_1, main_v4_2, main_v4_3, main_v4_4, main_v4_5, main_v4_6, main_v4_7]

theorem opsA_writes : (opsA (F := F)).map HloOp.writes = wrA.map fun r => {Proc.devRef (τ := τ) .tc r} := rfl

theorem opsA_bufs : (opsA (F := F)).Forall fun op => op.bufs ⊆ tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem opsA_fresh : (opsA (F := F)).Forall fun op => op.fresh = ∅ := by
  simp only [List.Forall]; repeat' constructor

/-- The operations of the first loop's condition. -/
abbrev opsK0 : List (HloOp τ sig (Elt F)) :=
  [ StableHlo.nullary main_while0c_c_11 (constantI S_ 32 200#32),
    StableHlo.binary main_v4_5 main_while0c_c_11 main_while0c_v16 (cmpi .slt : (⟨S_, .i32⟩ : BufTy).Contents (Elt F) → (⟨S_, .i32⟩ : BufTy).Contents (Elt F) → (⟨S_, .i1⟩ : BufTy).Contents (Elt F)) ]

/-- The buffers they write, in order. -/
abbrev wrK0 : List (Ref sig .tc) := [main_while0c_c_11, main_while0c_v16]

theorem opsK0_writes : (opsK0 (F := F)).map HloOp.writes = wrK0.map fun r => {Proc.devRef (τ := τ) .tc r} := rfl

theorem opsK0_bufs : (opsK0 (F := F)).Forall fun op => op.bufs ⊆ tcRefs τ sig :=
  ⟨StableHlo.nullary_bufs_sub .., StableHlo.binary_bufs_sub ..⟩

theorem opsK0_fresh : (opsK0 (F := F)).Forall fun op => op.fresh = ∅ := by
  simp only [List.Forall]; repeat' constructor

/-- The operations of the first loop's body. -/
abbrev opsL0 : List (HloOp τ sig (Elt F)) :=
  [ StableHlo.TRef.nullary main_while0b_call1.c (constantI S_ 32 0#32),
    StableHlo.TRef.nullary main_while0b_call1.c_0 (constantI S_ 32 0#32),
    StableHlo.TRef.unaryIndexed (.of main_v4_0 : StableHlo.TRef sig ⟨S200x1024x128, .f32⟩) ![(.of main_v4_5 : StableHlo.TRef sig ⟨S_, .i32⟩), main_while0b_call1.c, main_while0b_call1.c_0] main_while0b_call1.v0 (fun x i => Host.dynamicSlice S1x1024x128 x (fun k => (i k (Shape.Idx.first h_S_)).toInt) sliceFits_S200x1024x128_S1x1024x128),
    StableHlo.TRef.reshape main_while0b_call1.v0 main_while0b_call1.v1 (rfl : (.f32 : EltTy) = .f32) shapeCasts_S1x1024x128_S1024x128,
    StableHlo.unary main_v4_1 main_while0b_v17 ((transpose S128x512 [1, 0] · transposes_S512x128_S128x512_1_0) : (⟨S512x128, .f32⟩ : BufTy).Contents (Elt F) → (⟨S128x512, .f32⟩ : BufTy).Contents (Elt F)),
    StableHlo.binary main_while0b_v16 main_while0b_v17 main_while0b_v18 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_v4_2 main_while0b_v19 ((transpose S128x512 [1, 0] · transposes_S512x128_S128x512_1_0) : (⟨S512x128, .f32⟩ : BufTy).Contents (Elt F) → (⟨S128x512, .f32⟩ : BufTy).Contents (Elt F)),
    StableHlo.binary main_v4_6 main_while0b_v19 main_while0b_v20 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while0b_v18 main_while0b_v20 main_while0b_v21 (addf : (⟨S1024x512, .f32⟩ : BufTy).Contents (Elt F) → (⟨S1024x512, .f32⟩ : BufTy).Contents (Elt F) → (⟨S1024x512, .f32⟩ : BufTy).Contents (Elt F)),
    StableHlo.unary main_v4_3 main_while0b_v22 (broadcastInDim S1x512 ![1] bcast_S512_S1x512_1 : (⟨S512, .f32⟩ : BufTy).Contents (Elt F) → (⟨S1x512, .f32⟩ : BufTy).Contents (Elt F)),
    StableHlo.unary main_while0b_v22 main_while0b_v23 (broadcastInDim S1024x512 ![0, 1] bcast_S1x512_S1024x512_0_1 : (⟨S1x512, .f32⟩ : BufTy).Contents (Elt F) → (⟨S1024x512, .f32⟩ : BufTy).Contents (Elt F)),
    StableHlo.binary main_while0b_v21 main_while0b_v23 main_while0b_v24 (addf : (⟨S1024x512, .f32⟩ : BufTy).Contents (Elt F) → (⟨S1024x512, .f32⟩ : BufTy).Contents (Elt F) → (⟨S1024x512, .f32⟩ : BufTy).Contents (Elt F)),
    StableHlo.unary main_v4_4 main_while0b_v25 (broadcastInDim S1x512 ![1] bcast_S512_S1x512_1 : (⟨S512, .f32⟩ : BufTy).Contents (Elt F) → (⟨S1x512, .f32⟩ : BufTy).Contents (Elt F)),
    StableHlo.unary main_while0b_v25 main_while0b_v26 (broadcastInDim S1024x512 ![0, 1] bcast_S1x512_S1024x512_0_1 : (⟨S1x512, .f32⟩ : BufTy).Contents (Elt F) → (⟨S1024x512, .f32⟩ : BufTy).Contents (Elt F)),
    StableHlo.binary main_while0b_v24 main_while0b_v26 main_while0b_v27 (addf : (⟨S1024x512, .f32⟩ : BufTy).Contents (Elt F) → (⟨S1024x512, .f32⟩ : BufTy).Contents (Elt F) → (⟨S1024x512, .f32⟩ : BufTy).Contents (Elt F)),
    StableHlo.unary main_while0b_v27 main_while0b_v28 ((extractStridedSlice S1024x128 ![0, 0] · slices_S1024x512_S1024x128_0_0) : (⟨S1024x512, .f32⟩ : BufTy).Contents (Elt F) → (⟨S1024x128, .f32⟩ : BufTy).Contents (Elt F)),
    StableHlo.unary main_while0b_v27 main_while0b_v29 ((extractStridedSlice S1024x128 ![0, 128] · slices_S1024x512_S1024x128_0_128) : (⟨S1024x512, .f32⟩ : BufTy).Contents (Elt F) → (⟨S1024x128, .f32⟩ : BufTy).Contents (Elt F)),
    StableHlo.unary main_while0b_v27 main_while0b_v30 ((extractStridedSlice S1024x128 ![0, 256] · slices_S1024x512_S1024x128_0_256) : (⟨S1024x512, .f32⟩ : BufTy).Contents (Elt F) → (⟨S1024x128, .f32⟩ : BufTy).Contents (Elt F)),
    StableHlo.unary main_while0b_v27 main_while0b_v31 ((extractStridedSlice S1024x128 ![0, 384] · slices_S1024x512_S1024x128_0_384) : (⟨S1024x512, .f32⟩ : BufTy).Contents (Elt F) → (⟨S1024x128, .f32⟩ : BufTy).Contents (Elt F)),
    StableHlo.unary main_while0b_v28 main_while0b_v32 (Host.negf : (⟨S1024x128, .f32⟩ : BufTy).Contents (Elt F) → (⟨S1024x128, .f32⟩ : BufTy).Contents (Elt F)),
    StableHlo.unary main_while0b_v32 main_while0b_v33 (Host.exp : (⟨S1024x128, .f32⟩ : BufTy).Contents (Elt F) → (⟨S1024x128, .f32⟩ : BufTy).Contents (Elt F)),
    StableHlo.nullary main_while0b_cst_11 (constant S_ .f32 0x3F800000#32),
    StableHlo.unary main_while0b_cst_11 main_while0b_v34 (broadcastInDim S1024x128 ![] bcast_S_S1024x128 : (⟨S_, .f32⟩ : BufTy).Contents (Elt F) → (⟨S1024x128, .f32⟩ : BufTy).Contents (Elt F)),
    StableHlo.binary main_while0b_v34 main_while0b_v33 main_while0b_v35 (addf : (⟨S1024x128, .f32⟩ : BufTy).Contents (Elt F) → (⟨S1024x128, .f32⟩ : BufTy).Contents (Elt F) → (⟨S1024x128, .f32⟩ : BufTy).Contents (Elt F)),
    StableHlo.nullary main_while0b_cst_12 (constant S_ .f32 0x3F800000#32),
    StableHlo.unary main_while0b_cst_12 main_while0b_v36 (broadcastInDim S1024x128 ![] bcast_S_S1024x128 : (⟨S_, .f32⟩ : BufTy).Contents (Elt F) → (⟨S1024x128, .f32⟩ : BufTy).Contents (Elt F)),
    StableHlo.binary main_while0b_v36 main_while0b_v35 main_while0b_v37 (Host.divf : (⟨S1024x128, .f32⟩ : BufTy).Contents (Elt F) → (⟨S1024x128, .f32⟩ : BufTy).Contents (Elt F) → (⟨S1024x128, .f32⟩ : BufTy).Contents (Elt F)),
    StableHlo.unary main_while0b_v29 main_while0b_v38 (Host.negf : (⟨S1024x128, .f32⟩ : BufTy).Contents (Elt F) → (⟨S1024x128, .f32⟩ : BufTy).Contents (Elt F)),
    StableHlo.unary main_while0b_v38 main_while0b_v39 (Host.exp : (⟨S1024x128, .f32⟩ : BufTy).Contents (Elt F) → (⟨S1024x128, .f32⟩ : BufTy).Contents (Elt F)),
    StableHlo.nullary main_while0b_cst_13 (constant S_ .f32 0x3F800000#32),
    StableHlo.unary main_while0b_cst_13 main_while0b_v40 (broadcastInDim S1024x128 ![] bcast_S_S1024x128 : (⟨S_, .f32⟩ : BufTy).Contents (Elt F) → (⟨S1024x128, .f32⟩ : BufTy).Contents (Elt F)),
    StableHlo.binary main_while0b_v40 main_while0b_v39 main_while0b_v41 (addf : (⟨S1024x128, .f32⟩ : BufTy).Contents (Elt F) → (⟨S1024x128, .f32⟩ : BufTy).Contents (Elt F) → (⟨S1024x128, .f32⟩ : BufTy).Contents (Elt F)),
    StableHlo.nullary main_while0b_cst_14 (constant S_ .f32 0x3F800000#32),
    StableHlo.unary main_while0b_cst_14 main_while0b_v42 (broadcastInDim S1024x128 ![] bcast_S_S1024x128 : (⟨S_, .f32⟩ : BufTy).Contents (Elt F) → (⟨S1024x128, .f32⟩ : BufTy).Contents (Elt F)),
    StableHlo.binary main_while0b_v42 main_while0b_v41 main_while0b_v43 (Host.divf : (⟨S1024x128, .f32⟩ : BufTy).Contents (Elt F) → (⟨S1024x128, .f32⟩ : BufTy).Contents (Elt F) → (⟨S1024x128, .f32⟩ : BufTy).Contents (Elt F)),
    StableHlo.unary main_while0b_v30 main_while0b_v44 (Host.tanh : (⟨S1024x128, .f32⟩ : BufTy).Contents (Elt F) → (⟨S1024x128, .f32⟩ : BufTy).Contents (Elt F)),
    StableHlo.unary main_while0b_v31 main_while0b_v45 (Host.negf : (⟨S1024x128, .f32⟩ : BufTy).Contents (Elt F) → (⟨S1024x128, .f32⟩ : BufTy).Contents (Elt F)),
    StableHlo.unary main_while0b_v45 main_while0b_v46 (Host.exp : (⟨S1024x128, .f32⟩ : BufTy).Contents (Elt F) → (⟨S1024x128, .f32⟩ : BufTy).Contents (Elt F)),
    StableHlo.nullary main_while0b_cst_15 (constant S_ .f32 0x3F800000#32),
    StableHlo.unary main_while0b_cst_15 main_while0b_v47 (broadcastInDim S1024x128 ![] bcast_S_S1024x128 : (⟨S_, .f32⟩ : BufTy).Contents (Elt F) → (⟨S1024x128, .f32⟩ : BufTy).Contents (Elt F)),
    StableHlo.binary main_while0b_v47 main_while0b_v46 main_while0b_v48 (addf : (⟨S1024x128, .f32⟩ : BufTy).Contents (Elt F) → (⟨S1024x128, .f32⟩ : BufTy).Contents (Elt F) → (⟨S1024x128, .f32⟩ : BufTy).Contents (Elt F)),
    StableHlo.nullary main_while0b_cst_16 (constant S_ .f32 0x3F800000#32),
    StableHlo.unary main_while0b_cst_16 main_while0b_v49 (broadcastInDim S1024x128 ![] bcast_S_S1024x128 : (⟨S_, .f32⟩ : BufTy).Contents (Elt F) → (⟨S1024x128, .f32⟩ : BufTy).Contents (Elt F)),
    StableHlo.binary main_while0b_v49 main_while0b_v48 main_while0b_v50 (Host.divf : (⟨S1024x128, .f32⟩ : BufTy).Contents (Elt F) → (⟨S1024x128, .f32⟩ : BufTy).Contents (Elt F) → (⟨S1024x128, .f32⟩ : BufTy).Contents (Elt F)),
    StableHlo.binary main_while0b_v43 main_v4_7 main_while0b_v51 (mulf : (⟨S1024x128, .f32⟩ : BufTy).Contents (Elt F) → (⟨S1024x128, .f32⟩ : BufTy).Contents (Elt F) → (⟨S1024x128, .f32⟩ : BufTy).Contents (Elt F)),
    StableHlo.binary main_while0b_v37 main_while0b_v44 main_while0b_v52 (mulf : (⟨S1024x128, .f32⟩ : BufTy).Contents (Elt F) → (⟨S1024x128, .f32⟩ : BufTy).Contents (Elt F) → (⟨S1024x128, .f32⟩ : BufTy).Contents (Elt F)),
    StableHlo.binary main_while0b_v51 main_while0b_v52 main_while0b_v53 (addf : (⟨S1024x128, .f32⟩ : BufTy).Contents (Elt F) → (⟨S1024x128, .f32⟩ : BufTy).Contents (Elt F) → (⟨S1024x128, .f32⟩ : BufTy).Contents (Elt F)),
    StableHlo.unary main_while0b_v53 main_while0b_v54 (Host.tanh : (⟨S1024x128, .f32⟩ : BufTy).Contents (Elt F) → (⟨S1024x128, .f32⟩ : BufTy).Contents (Elt F)),
    StableHlo.binary main_while0b_v50 main_while0b_v54 main_while0b_v55 (mulf : (⟨S1024x128, .f32⟩ : BufTy).Contents (Elt F) → (⟨S1024x128, .f32⟩ : BufTy).Contents (Elt F) → (⟨S1024x128, .f32⟩ : BufTy).Contents (Elt F)),
    StableHlo.nullary main_while0b_c_17 (constantI S_ 32 1#32),
    StableHlo.binary main_v4_5 main_while0b_c_17 main_while0b_v56 (addi : (⟨S_, .i32⟩ : BufTy).Contents (Elt F) → (⟨S_, .i32⟩ : BufTy).Contents (Elt F) → (⟨S_, .i32⟩ : BufTy).Contents (Elt F)),
    StableHlo.unary main_while0b_v56 main_v4_5 id,
    StableHlo.unary main_while0b_v55 main_v4_6 id,
    StableHlo.unary main_while0b_v53 main_v4_7 id ]

/-- The buffers they write, in order. -/
abbrev wrL0 : List (Ref sig .tc) := [main_while0b_call1_c, main_while0b_call1_c_0, main_while0b_call1_v0, main_while0b_v16, main_while0b_v17, main_while0b_v18, main_while0b_v19, main_while0b_v20, main_while0b_v21, main_while0b_v22, main_while0b_v23, main_while0b_v24, main_while0b_v25, main_while0b_v26, main_while0b_v27, main_while0b_v28, main_while0b_v29, main_while0b_v30, main_while0b_v31, main_while0b_v32, main_while0b_v33, main_while0b_cst_11, main_while0b_v34, main_while0b_v35, main_while0b_cst_12, main_while0b_v36, main_while0b_v37, main_while0b_v38, main_while0b_v39, main_while0b_cst_13, main_while0b_v40, main_while0b_v41, main_while0b_cst_14, main_while0b_v42, main_while0b_v43, main_while0b_v44, main_while0b_v45, main_while0b_v46, main_while0b_cst_15, main_while0b_v47, main_while0b_v48, main_while0b_cst_16, main_while0b_v49, main_while0b_v50, main_while0b_v51, main_while0b_v52, main_while0b_v53, main_while0b_v54, main_while0b_v55, main_while0b_c_17, main_while0b_v56, main_v4_5, main_v4_6, main_v4_7]

theorem opsL0_writes : (opsL0 (F := F)).map HloOp.writes = wrL0.map fun r => {Proc.devRef (τ := τ) .tc r} := rfl

theorem opsL0_bufs : (opsL0 (F := F)).Forall fun op => op.bufs ⊆ tcRefs τ sig :=
  ⟨StableHlo.nullary_bufs_sub .., StableHlo.nullary_bufs_sub .., StableHlo.unaryIndexed_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩

theorem opsL0_fresh : (opsL0 (F := F)).Forall fun op => op.fresh = ∅ := by
  simp only [List.Forall]; repeat' constructor

/-- The operations between the two loops. -/
abbrev opsB : List (HloOp τ sig (Elt F)) :=
  [ StableHlo.unary main_v1 main_v5 (Host.reverse [0] : (⟨S200x1024x128, .f32⟩ : BufTy).Contents (Elt F) → (⟨S200x1024x128, .f32⟩ : BufTy).Contents (Elt F)),
    StableHlo.nullary main_cst_1 (constant S_ .f32 0x00000000#32),
    StableHlo.unary main_cst_1 main_v6 (broadcastInDim S1024x128 ![] bcast_S_S1024x128 : (⟨S_, .f32⟩ : BufTy).Contents (Elt F) → (⟨S1024x128, .f32⟩ : BufTy).Contents (Elt F)),
    StableHlo.nullary main_cst_2 (constant S_ .f32 0x00000000#32),
    StableHlo.unary main_cst_2 main_v7 (broadcastInDim S1024x128 ![] bcast_S_S1024x128 : (⟨S_, .f32⟩ : BufTy).Contents (Elt F) → (⟨S1024x128, .f32⟩ : BufTy).Contents (Elt F)),
    StableHlo.nullary main_c_3 (constantI S_ 32 0#32),
    StableHlo.unary main_v5 main_v8_0 id,
    StableHlo.unary main_arg6 main_v8_1 id,
    StableHlo.unary main_arg7 main_v8_2 id,
    StableHlo.unary main_arg8 main_v8_3 id,
    StableHlo.unary main_arg9 main_v8_4 id,
    StableHlo.unary main_c_3 main_v8_5 id,
    StableHlo.unary main_v6 main_v8_6 id,
    StableHlo.unary main_v7 main_v8_7 id ]

/-- The buffers they write, in order. -/
abbrev wrB : List (Ref sig .tc) := [main_v5, main_cst_1, main_v6, main_cst_2, main_v7, main_c_3, main_v8_0, main_v8_1, main_v8_2, main_v8_3, main_v8_4, main_v8_5, main_v8_6, main_v8_7]

theorem opsB_writes : (opsB (F := F)).map HloOp.writes = wrB.map fun r => {Proc.devRef (τ := τ) .tc r} := rfl

theorem opsB_bufs : (opsB (F := F)).Forall fun op => op.bufs ⊆ tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem opsB_fresh : (opsB (F := F)).Forall fun op => op.fresh = ∅ := by
  simp only [List.Forall]; repeat' constructor

/-- The operations of the second loop's condition. -/
abbrev opsK1 : List (HloOp τ sig (Elt F)) :=
  [ StableHlo.nullary main_while1c_c_11 (constantI S_ 32 200#32),
    StableHlo.binary main_v8_5 main_while1c_c_11 main_while1c_v16 (cmpi .slt : (⟨S_, .i32⟩ : BufTy).Contents (Elt F) → (⟨S_, .i32⟩ : BufTy).Contents (Elt F) → (⟨S_, .i1⟩ : BufTy).Contents (Elt F)) ]

/-- The buffers they write, in order. -/
abbrev wrK1 : List (Ref sig .tc) := [main_while1c_c_11, main_while1c_v16]

theorem opsK1_writes : (opsK1 (F := F)).map HloOp.writes = wrK1.map fun r => {Proc.devRef (τ := τ) .tc r} := rfl

theorem opsK1_bufs : (opsK1 (F := F)).Forall fun op => op.bufs ⊆ tcRefs τ sig :=
  ⟨StableHlo.nullary_bufs_sub .., StableHlo.binary_bufs_sub ..⟩

theorem opsK1_fresh : (opsK1 (F := F)).Forall fun op => op.fresh = ∅ := by
  simp only [List.Forall]; repeat' constructor

/-- The operations of the second loop's body. -/
abbrev opsL1 : List (HloOp τ sig (Elt F)) :=
  [ StableHlo.TRef.nullary main_while1b_call2.c (constantI S_ 32 0#32),
    StableHlo.TRef.nullary main_while1b_call2.c_0 (constantI S_ 32 0#32),
    StableHlo.TRef.unaryIndexed (.of main_v8_0 : StableHlo.TRef sig ⟨S200x1024x128, .f32⟩) ![(.of main_v8_5 : StableHlo.TRef sig ⟨S_, .i32⟩), main_while1b_call2.c, main_while1b_call2.c_0] main_while1b_call2.v0 (fun x i => Host.dynamicSlice S1x1024x128 x (fun k => (i k (Shape.Idx.first h_S_)).toInt) sliceFits_S200x1024x128_S1x1024x128),
    StableHlo.TRef.reshape main_while1b_call2.v0 main_while1b_call2.v1 (rfl : (.f32 : EltTy) = .f32) shapeCasts_S1x1024x128_S1024x128,
    StableHlo.unary main_v8_1 main_while1b_v17 ((transpose S128x512 [1, 0] · transposes_S512x128_S128x512_1_0) : (⟨S512x128, .f32⟩ : BufTy).Contents (Elt F) → (⟨S128x512, .f32⟩ : BufTy).Contents (Elt F)),
    StableHlo.binary main_while1b_v16 main_while1b_v17 main_while1b_v18 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_v8_2 main_while1b_v19 ((transpose S128x512 [1, 0] · transposes_S512x128_S128x512_1_0) : (⟨S512x128, .f32⟩ : BufTy).Contents (Elt F) → (⟨S128x512, .f32⟩ : BufTy).Contents (Elt F)),
    StableHlo.binary main_v8_6 main_while1b_v19 main_while1b_v20 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while1b_v18 main_while1b_v20 main_while1b_v21 (addf : (⟨S1024x512, .f32⟩ : BufTy).Contents (Elt F) → (⟨S1024x512, .f32⟩ : BufTy).Contents (Elt F) → (⟨S1024x512, .f32⟩ : BufTy).Contents (Elt F)),
    StableHlo.unary main_v8_3 main_while1b_v22 (broadcastInDim S1x512 ![1] bcast_S512_S1x512_1 : (⟨S512, .f32⟩ : BufTy).Contents (Elt F) → (⟨S1x512, .f32⟩ : BufTy).Contents (Elt F)),
    StableHlo.unary main_while1b_v22 main_while1b_v23 (broadcastInDim S1024x512 ![0, 1] bcast_S1x512_S1024x512_0_1 : (⟨S1x512, .f32⟩ : BufTy).Contents (Elt F) → (⟨S1024x512, .f32⟩ : BufTy).Contents (Elt F)),
    StableHlo.binary main_while1b_v21 main_while1b_v23 main_while1b_v24 (addf : (⟨S1024x512, .f32⟩ : BufTy).Contents (Elt F) → (⟨S1024x512, .f32⟩ : BufTy).Contents (Elt F) → (⟨S1024x512, .f32⟩ : BufTy).Contents (Elt F)),
    StableHlo.unary main_v8_4 main_while1b_v25 (broadcastInDim S1x512 ![1] bcast_S512_S1x512_1 : (⟨S512, .f32⟩ : BufTy).Contents (Elt F) → (⟨S1x512, .f32⟩ : BufTy).Contents (Elt F)),
    StableHlo.unary main_while1b_v25 main_while1b_v26 (broadcastInDim S1024x512 ![0, 1] bcast_S1x512_S1024x512_0_1 : (⟨S1x512, .f32⟩ : BufTy).Contents (Elt F) → (⟨S1024x512, .f32⟩ : BufTy).Contents (Elt F)),
    StableHlo.binary main_while1b_v24 main_while1b_v26 main_while1b_v27 (addf : (⟨S1024x512, .f32⟩ : BufTy).Contents (Elt F) → (⟨S1024x512, .f32⟩ : BufTy).Contents (Elt F) → (⟨S1024x512, .f32⟩ : BufTy).Contents (Elt F)),
    StableHlo.unary main_while1b_v27 main_while1b_v28 ((extractStridedSlice S1024x128 ![0, 0] · slices_S1024x512_S1024x128_0_0) : (⟨S1024x512, .f32⟩ : BufTy).Contents (Elt F) → (⟨S1024x128, .f32⟩ : BufTy).Contents (Elt F)),
    StableHlo.unary main_while1b_v27 main_while1b_v29 ((extractStridedSlice S1024x128 ![0, 128] · slices_S1024x512_S1024x128_0_128) : (⟨S1024x512, .f32⟩ : BufTy).Contents (Elt F) → (⟨S1024x128, .f32⟩ : BufTy).Contents (Elt F)),
    StableHlo.unary main_while1b_v27 main_while1b_v30 ((extractStridedSlice S1024x128 ![0, 256] · slices_S1024x512_S1024x128_0_256) : (⟨S1024x512, .f32⟩ : BufTy).Contents (Elt F) → (⟨S1024x128, .f32⟩ : BufTy).Contents (Elt F)),
    StableHlo.unary main_while1b_v27 main_while1b_v31 ((extractStridedSlice S1024x128 ![0, 384] · slices_S1024x512_S1024x128_0_384) : (⟨S1024x512, .f32⟩ : BufTy).Contents (Elt F) → (⟨S1024x128, .f32⟩ : BufTy).Contents (Elt F)),
    StableHlo.unary main_while1b_v28 main_while1b_v32 (Host.negf : (⟨S1024x128, .f32⟩ : BufTy).Contents (Elt F) → (⟨S1024x128, .f32⟩ : BufTy).Contents (Elt F)),
    StableHlo.unary main_while1b_v32 main_while1b_v33 (Host.exp : (⟨S1024x128, .f32⟩ : BufTy).Contents (Elt F) → (⟨S1024x128, .f32⟩ : BufTy).Contents (Elt F)),
    StableHlo.nullary main_while1b_cst_11 (constant S_ .f32 0x3F800000#32),
    StableHlo.unary main_while1b_cst_11 main_while1b_v34 (broadcastInDim S1024x128 ![] bcast_S_S1024x128 : (⟨S_, .f32⟩ : BufTy).Contents (Elt F) → (⟨S1024x128, .f32⟩ : BufTy).Contents (Elt F)),
    StableHlo.binary main_while1b_v34 main_while1b_v33 main_while1b_v35 (addf : (⟨S1024x128, .f32⟩ : BufTy).Contents (Elt F) → (⟨S1024x128, .f32⟩ : BufTy).Contents (Elt F) → (⟨S1024x128, .f32⟩ : BufTy).Contents (Elt F)),
    StableHlo.nullary main_while1b_cst_12 (constant S_ .f32 0x3F800000#32),
    StableHlo.unary main_while1b_cst_12 main_while1b_v36 (broadcastInDim S1024x128 ![] bcast_S_S1024x128 : (⟨S_, .f32⟩ : BufTy).Contents (Elt F) → (⟨S1024x128, .f32⟩ : BufTy).Contents (Elt F)),
    StableHlo.binary main_while1b_v36 main_while1b_v35 main_while1b_v37 (Host.divf : (⟨S1024x128, .f32⟩ : BufTy).Contents (Elt F) → (⟨S1024x128, .f32⟩ : BufTy).Contents (Elt F) → (⟨S1024x128, .f32⟩ : BufTy).Contents (Elt F)),
    StableHlo.unary main_while1b_v29 main_while1b_v38 (Host.negf : (⟨S1024x128, .f32⟩ : BufTy).Contents (Elt F) → (⟨S1024x128, .f32⟩ : BufTy).Contents (Elt F)),
    StableHlo.unary main_while1b_v38 main_while1b_v39 (Host.exp : (⟨S1024x128, .f32⟩ : BufTy).Contents (Elt F) → (⟨S1024x128, .f32⟩ : BufTy).Contents (Elt F)),
    StableHlo.nullary main_while1b_cst_13 (constant S_ .f32 0x3F800000#32),
    StableHlo.unary main_while1b_cst_13 main_while1b_v40 (broadcastInDim S1024x128 ![] bcast_S_S1024x128 : (⟨S_, .f32⟩ : BufTy).Contents (Elt F) → (⟨S1024x128, .f32⟩ : BufTy).Contents (Elt F)),
    StableHlo.binary main_while1b_v40 main_while1b_v39 main_while1b_v41 (addf : (⟨S1024x128, .f32⟩ : BufTy).Contents (Elt F) → (⟨S1024x128, .f32⟩ : BufTy).Contents (Elt F) → (⟨S1024x128, .f32⟩ : BufTy).Contents (Elt F)),
    StableHlo.nullary main_while1b_cst_14 (constant S_ .f32 0x3F800000#32),
    StableHlo.unary main_while1b_cst_14 main_while1b_v42 (broadcastInDim S1024x128 ![] bcast_S_S1024x128 : (⟨S_, .f32⟩ : BufTy).Contents (Elt F) → (⟨S1024x128, .f32⟩ : BufTy).Contents (Elt F)),
    StableHlo.binary main_while1b_v42 main_while1b_v41 main_while1b_v43 (Host.divf : (⟨S1024x128, .f32⟩ : BufTy).Contents (Elt F) → (⟨S1024x128, .f32⟩ : BufTy).Contents (Elt F) → (⟨S1024x128, .f32⟩ : BufTy).Contents (Elt F)),
    StableHlo.unary main_while1b_v30 main_while1b_v44 (Host.tanh : (⟨S1024x128, .f32⟩ : BufTy).Contents (Elt F) → (⟨S1024x128, .f32⟩ : BufTy).Contents (Elt F)),
    StableHlo.unary main_while1b_v31 main_while1b_v45 (Host.negf : (⟨S1024x128, .f32⟩ : BufTy).Contents (Elt F) → (⟨S1024x128, .f32⟩ : BufTy).Contents (Elt F)),
    StableHlo.unary main_while1b_v45 main_while1b_v46 (Host.exp : (⟨S1024x128, .f32⟩ : BufTy).Contents (Elt F) → (⟨S1024x128, .f32⟩ : BufTy).Contents (Elt F)),
    StableHlo.nullary main_while1b_cst_15 (constant S_ .f32 0x3F800000#32),
    StableHlo.unary main_while1b_cst_15 main_while1b_v47 (broadcastInDim S1024x128 ![] bcast_S_S1024x128 : (⟨S_, .f32⟩ : BufTy).Contents (Elt F) → (⟨S1024x128, .f32⟩ : BufTy).Contents (Elt F)),
    StableHlo.binary main_while1b_v47 main_while1b_v46 main_while1b_v48 (addf : (⟨S1024x128, .f32⟩ : BufTy).Contents (Elt F) → (⟨S1024x128, .f32⟩ : BufTy).Contents (Elt F) → (⟨S1024x128, .f32⟩ : BufTy).Contents (Elt F)),
    StableHlo.nullary main_while1b_cst_16 (constant S_ .f32 0x3F800000#32),
    StableHlo.unary main_while1b_cst_16 main_while1b_v49 (broadcastInDim S1024x128 ![] bcast_S_S1024x128 : (⟨S_, .f32⟩ : BufTy).Contents (Elt F) → (⟨S1024x128, .f32⟩ : BufTy).Contents (Elt F)),
    StableHlo.binary main_while1b_v49 main_while1b_v48 main_while1b_v50 (Host.divf : (⟨S1024x128, .f32⟩ : BufTy).Contents (Elt F) → (⟨S1024x128, .f32⟩ : BufTy).Contents (Elt F) → (⟨S1024x128, .f32⟩ : BufTy).Contents (Elt F)),
    StableHlo.binary main_while1b_v43 main_v8_7 main_while1b_v51 (mulf : (⟨S1024x128, .f32⟩ : BufTy).Contents (Elt F) → (⟨S1024x128, .f32⟩ : BufTy).Contents (Elt F) → (⟨S1024x128, .f32⟩ : BufTy).Contents (Elt F)),
    StableHlo.binary main_while1b_v37 main_while1b_v44 main_while1b_v52 (mulf : (⟨S1024x128, .f32⟩ : BufTy).Contents (Elt F) → (⟨S1024x128, .f32⟩ : BufTy).Contents (Elt F) → (⟨S1024x128, .f32⟩ : BufTy).Contents (Elt F)),
    StableHlo.binary main_while1b_v51 main_while1b_v52 main_while1b_v53 (addf : (⟨S1024x128, .f32⟩ : BufTy).Contents (Elt F) → (⟨S1024x128, .f32⟩ : BufTy).Contents (Elt F) → (⟨S1024x128, .f32⟩ : BufTy).Contents (Elt F)),
    StableHlo.unary main_while1b_v53 main_while1b_v54 (Host.tanh : (⟨S1024x128, .f32⟩ : BufTy).Contents (Elt F) → (⟨S1024x128, .f32⟩ : BufTy).Contents (Elt F)),
    StableHlo.binary main_while1b_v50 main_while1b_v54 main_while1b_v55 (mulf : (⟨S1024x128, .f32⟩ : BufTy).Contents (Elt F) → (⟨S1024x128, .f32⟩ : BufTy).Contents (Elt F) → (⟨S1024x128, .f32⟩ : BufTy).Contents (Elt F)),
    StableHlo.nullary main_while1b_c_17 (constantI S_ 32 1#32),
    StableHlo.binary main_v8_5 main_while1b_c_17 main_while1b_v56 (addi : (⟨S_, .i32⟩ : BufTy).Contents (Elt F) → (⟨S_, .i32⟩ : BufTy).Contents (Elt F) → (⟨S_, .i32⟩ : BufTy).Contents (Elt F)),
    StableHlo.unary main_while1b_v56 main_v8_5 id,
    StableHlo.unary main_while1b_v55 main_v8_6 id,
    StableHlo.unary main_while1b_v53 main_v8_7 id ]

/-- The buffers they write, in order. -/
abbrev wrL1 : List (Ref sig .tc) := [main_while1b_call2_c, main_while1b_call2_c_0, main_while1b_call2_v0, main_while1b_v16, main_while1b_v17, main_while1b_v18, main_while1b_v19, main_while1b_v20, main_while1b_v21, main_while1b_v22, main_while1b_v23, main_while1b_v24, main_while1b_v25, main_while1b_v26, main_while1b_v27, main_while1b_v28, main_while1b_v29, main_while1b_v30, main_while1b_v31, main_while1b_v32, main_while1b_v33, main_while1b_cst_11, main_while1b_v34, main_while1b_v35, main_while1b_cst_12, main_while1b_v36, main_while1b_v37, main_while1b_v38, main_while1b_v39, main_while1b_cst_13, main_while1b_v40, main_while1b_v41, main_while1b_cst_14, main_while1b_v42, main_while1b_v43, main_while1b_v44, main_while1b_v45, main_while1b_v46, main_while1b_cst_15, main_while1b_v47, main_while1b_v48, main_while1b_cst_16, main_while1b_v49, main_while1b_v50, main_while1b_v51, main_while1b_v52, main_while1b_v53, main_while1b_v54, main_while1b_v55, main_while1b_c_17, main_while1b_v56, main_v8_5, main_v8_6, main_v8_7]

theorem opsL1_writes : (opsL1 (F := F)).map HloOp.writes = wrL1.map fun r => {Proc.devRef (τ := τ) .tc r} := rfl

theorem opsL1_bufs : (opsL1 (F := F)).Forall fun op => op.bufs ⊆ tcRefs τ sig :=
  ⟨StableHlo.nullary_bufs_sub .., StableHlo.nullary_bufs_sub .., StableHlo.unaryIndexed_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub ..⟩

theorem opsL1_fresh : (opsL1 (F := F)).Forall fun op => op.fresh = ∅ := by
  simp only [List.Forall]; repeat' constructor

/-- The operations after the second loop. -/
abbrev opsC : List (HloOp τ sig (Elt F)) :=
  [ StableHlo.binary main_v4_6 main_v8_6 main_v9 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    StableHlo.unary main_arg10 main_v10 ((transpose S256x1 [1, 0] · transposes_S1x256_S256x1_1_0) : (⟨S1x256, .f32⟩ : BufTy).Contents (Elt F) → (⟨S256x1, .f32⟩ : BufTy).Contents (Elt F)),
    StableHlo.binary main_v9 main_v10 main_v11 ((fun l r => Host.dotGeneral dot_S1024x256_S256x1_S1024x1_1_0_0_1_n_n none l r) : (⟨S1024x256, .f32⟩ : BufTy).Contents (Elt F) → (⟨S256x1, .f32⟩ : BufTy).Contents (Elt F) → (⟨S1024x1, .f32⟩ : BufTy).Contents (Elt F)),
    StableHlo.unary main_arg11 main_v12 (broadcastInDim S1x1 ![1] bcast_S1_S1x1_1 : (⟨S1, .f32⟩ : BufTy).Contents (Elt F) → (⟨S1x1, .f32⟩ : BufTy).Contents (Elt F)),
    StableHlo.unary main_v12 main_v13 (broadcastInDim S1024x1 ![0, 1] bcast_S1x1_S1024x1_0_1 : (⟨S1x1, .f32⟩ : BufTy).Contents (Elt F) → (⟨S1024x1, .f32⟩ : BufTy).Contents (Elt F)),
    StableHlo.binary main_v11 main_v13 main_v14 (addf : (⟨S1024x1, .f32⟩ : BufTy).Contents (Elt F) → (⟨S1024x1, .f32⟩ : BufTy).Contents (Elt F) → (⟨S1024x1, .f32⟩ : BufTy).Contents (Elt F)),
    StableHlo.reshape main_v14 main_v15 (rfl : (.f32 : EltTy) = .f32) shapeCasts_S1024x1_S1024 ]

/-- The buffers they write, in order. -/
abbrev wrC : List (Ref sig .tc) := [main_v9, main_v10, main_v11, main_v12, main_v13, main_v14, main_v15]

theorem opsC_writes : (opsC (F := F)).map HloOp.writes = wrC.map fun r => {Proc.devRef (τ := τ) .tc r} := rfl

theorem opsC_bufs : (opsC (F := F)).Forall fun op => op.bufs ⊆ tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.reshape_bufs_sub ..⟩

theorem opsC_fresh : (opsC (F := F)).Forall fun op => op.fresh = ∅ := by
  simp only [List.Forall]; repeat' constructor

/-! ## The program and its loops as chains of these lines -/

theorem main_eq (c : Dev nD) : main (F := F) c = Pipeline.chain
    [StableHlo.seq opsT, StableHlo.seq opsA, HostLoop.enter 0, StableHlo.seq opsB, HostLoop.enter 1, StableHlo.seq opsC] := by
  chain_rfl

theorem body0_eq : main_while0_body (F := F) = Pipeline.chain ([opsL0].map fun ops => (StableHlo.seq ops : Prog _ PUnit)) := by
  chain_rfl

theorem body1_eq : main_while1_body (F := F) = Pipeline.chain ([opsL1].map fun ops => (StableHlo.seq ops : Prog _ PUnit)) := by
  chain_rfl

theorem plainL0 : Plain [opsL0 (F := F)] := .cons opsL0_bufs .nil
theorem plainL1 : Plain [opsL1 (F := F)] := .cons opsL1_bufs .nil

/-! ## The contents along the run -/

variable (m : (ℓ : Loc nD τ sig) → Buf (Elt F) ℓ)

/-- At the launch, -/
def W0 (c : Dev nD) : Valuation τ sig (Elt F) := fun b => m (c, b)
/-- with the rows looked up, -/
def WT (c : Dev nD) : Valuation τ sig (Elt F) := after opsT (W0 m c)
/-- where the first loop is entered, -/
def WA (c : Dev nD) : Valuation τ sig (Elt F) := after opsA (WT m c)
/-- before the `k`-th test of the first loop's condition, -/
def X0 (k : ℕ) (c : Dev nD) : Valuation τ sig (Elt F) := atTrip opsK0 [opsL0] (WA m) k c
/-- where the first loop is left, -/
def WL0 (c : Dev nD) : Valuation τ sig (Elt F) := after opsK0 (X0 m 200 c)
/-- where the second is entered, -/
def WB (c : Dev nD) : Valuation τ sig (Elt F) := after opsB (WL0 m c)
/-- before the `k`-th test of its condition, -/
def X1 (k : ℕ) (c : Dev nD) : Valuation τ sig (Elt F) := atTrip opsK1 [opsL1] (WB m) k c
/-- where it is left, -/
def WL1 (c : Dev nD) : Valuation τ sig (Elt F) := after opsK1 (X1 m 200 c)
/-- and at the end. -/
def WC (c : Dev nD) : Valuation τ sig (Elt F) := after opsC (WL1 m c)

theorem X0_zero (c : Dev nD) : X0 m 0 c = WA m c := rfl
theorem X0_succ (k : ℕ) (c : Dev nD) : X0 m (k + 1) c = after opsL0 (after opsK0 (X0 m k c)) := rfl
theorem X1_zero (c : Dev nD) : X1 m 0 c = WB m c := rfl
theorem X1_succ (k : ℕ) (c : Dev nD) : X1 m (k + 1) c = after opsL1 (after opsK1 (X1 m k c)) := rfl

/-- A buffer that neither loop region of the first loop writes keeps its contents over the trips, -/
theorem X0_kept (c : Dev nD) (b : Ref sig .tc) (h1 : b ∉ wrK0) (h2 : b ∉ wrL0) : ∀ k, X0 m k c b = WA m c b
  | 0 => rfl
  | k + 1 => by
    rw [X0_succ, StableHlo.after_unwritten wrL0 opsL0_writes h2, StableHlo.after_unwritten wrK0 opsK0_writes h1, X0_kept c b h1 h2 k]

/-- and likewise for the second. -/
theorem X1_kept (c : Dev nD) (b : Ref sig .tc) (h1 : b ∉ wrK1) (h2 : b ∉ wrL1) : ∀ k, X1 m k c b = WB m c b
  | 0 => rfl
  | k + 1 => by
    rw [X1_succ, StableHlo.after_unwritten wrL1 opsL1_writes h2, StableHlo.after_unwritten wrK1 opsK1_writes h1, X1_kept c b h1 h2 k]

/-- What nothing from the first loop to the end writes is at the end what it was where the first loop is entered. -/
theorem WC_kept (c : Dev nD) (b : Ref sig .tc) (ht : b ∉ wrT) (ha : b ∉ wrA) (h1 : b ∉ wrK0) (h2 : b ∉ wrL0) (hb : b ∉ wrB)
    (h3 : b ∉ wrK1) (h4 : b ∉ wrL1) (hc : b ∉ wrC) : WC m c b = m ((c : Thread nD τ).loc b) := by
  unfold WC WL1
  rw [StableHlo.after_unwritten wrC opsC_writes hc, StableHlo.after_unwritten wrK1 opsK1_writes h3, X1_kept m c b h3 h4]
  unfold WB WL0
  rw [StableHlo.after_unwritten wrB opsB_writes hb, StableHlo.after_unwritten wrK0 opsK0_writes h1, X0_kept m c b h1 h2]
  unfold WA WT
  rw [StableHlo.after_unwritten wrA opsA_writes ha, StableHlo.after_unwritten wrT opsT_writes ht]
  rfl

/-! ## The trip counters -/

theorem ctr0_step (X : Valuation τ sig (Elt F)) :
    after opsL0 X (Proc.devRef .tc main_v4_5) = addi (X (Proc.devRef .tc main_v4_5)) (constantI S_ 32 1#32) := by
  after_results
  rfl

theorem ctr1_step (X : Valuation τ sig (Elt F)) :
    after opsL1 X (Proc.devRef .tc main_v8_5) = addi (X (Proc.devRef .tc main_v8_5)) (constantI S_ 32 1#32) := by
  after_results
  rfl

theorem ctr0_entry (c : Dev nD) : WA m c (Proc.devRef .tc main_v4_5) = fun _ => (0#32 : BitVec 32) := by
  unfold WA
  after_results
  rfl

theorem ctr1_entry (c : Dev nD) : WB m c (Proc.devRef .tc main_v8_5) = fun _ => (0#32 : BitVec 32) := by
  unfold WB
  after_results
  rfl

/-- Before the `k`-th test the counter is `k`. -/
theorem ctr0 (c : Dev nD) : ∀ k, X0 m k c (Proc.devRef .tc main_v4_5) = fun _ => Scf.iv 0#32 1#32 k
  | 0 => by rw [X0_zero, ctr0_entry, Scf.iv_zero]
  | k + 1 => by
    rw [X0_succ, ctr0_step, StableHlo.after_unwritten wrK0 opsK0_writes (by decide), ctr0 c k, Scf.iv_succ]
    rfl

theorem ctr1 (c : Dev nD) : ∀ k, X1 m k c (Proc.devRef .tc main_v8_5) = fun _ => Scf.iv 0#32 1#32 k
  | 0 => by rw [X1_zero, ctr1_entry, Scf.iv_zero]
  | k + 1 => by
    rw [X1_succ, ctr1_step, StableHlo.after_unwritten wrK1 opsK1_writes (by decide), ctr1 c k, Scf.iv_succ]
    rfl

/-! ## The conditions -/

/-- What a device carries beside its buffers: that it owes nothing. -/
abbrev Rw (c : Dev nD) : sProp 𝕄 := iprop(∃ W, owes (c : Thread nD τ) (0 : CellTallies nD τ sig Unit) W)

section
open Idealize.ShloMosaic.StableHlo
open Idealize.ShloMosaic.Pipeline (ucRefs sub_ucRefs)

set_option backward.isDefEq.respectTransparency.types false in
/-- The first loop's condition answers 1 exactly before the two hundredth test. -/
theorem cond0 : LoopCond (pcfgs (F := F)) defs₀ Variants.none loops Rw (main_while0_cond (F := F)) opsK0 [opsL0] (WA m) 200 := by
  intro k hk c bd
  have hctr := ctr0 m c k
  unfold X0 at hctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip opsK0 [opsL0] (WA m) k c) main_v4_5 HostLoop.idx0)
        (HloOp.result _ (atTrip opsK0 [opsL0] (WA m) k c) main_while0c_c_11 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  isplitl [Hh]; · rw [after_cons, after_cons, after_nil]; iexact Hh
  iexact HR

set_option backward.isDefEq.respectTransparency.types false in
/-- So does the second's. -/
theorem cond1 : LoopCond (pcfgs (F := F)) defs₀ Variants.none loops Rw (main_while1_cond (F := F)) opsK1 [opsL1] (WB m) 200 := by
  intro k hk c bd
  have hctr := ctr1 m c k
  unfold X1 at hctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip opsK1 [opsL1] (WB m) k c) main_v8_5 HostLoop.idx0)
        (HloOp.result _ (atTrip opsK1 [opsL1] (WB m) k c) main_while1c_c_11 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  isplitl [Hh]; · rw [after_cons, after_cons, after_nil]; iexact Hh
  iexact HR
end

/-! ## The run -/

/-- The program calls no kernel: no pipeline to admit, no ticket, no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem hinj : Function.Injective (Pipeline.cellOf (nD := nD) (τ := τ) (Pipeline.pin (pcfgs (F := F)) adm)) := fun k => k.1.elim0

abbrev Seg : Type 1 := Pipeline.CSeg (pcfgs (F := F)) adm defs₀ Variants.none L lv loops tk

/-- A straight line as a segment, from the contents `V`. -/
abbrev line (ops : List (HloOp τ sig (Elt F))) (hb : ops.Forall fun op => op.bufs ⊆ tcRefs τ sig) (hf : ops.Forall fun op => op.fresh = ∅)
    (V : Dev nD → Valuation τ sig (Elt F)) : Seg (F := F) :=
  Pipeline.CSeg.ofOps _ _ _ _ _ _ _ _ (Pipeline.ucRefs τ sig) ops
    (fun op h => Pipeline.sub_ucRefs op ((List.forall_iff_forall_mem.mp hb) op h))
    (fun op h => (List.forall_iff_forall_mem.mp hf) op h) V Rw

abbrev loop0 : Seg (F := F) :=
  loopSeg _ _ _ _ _ _ _ _ 0 (main_while0_cond (F := F)) (main_while0_body (F := F)) rfl opsK0 [opsL0] plainL0 body0_eq 200 (WA m) Rw (cond0 m)
abbrev loop1 : Seg (F := F) :=
  loopSeg _ _ _ _ _ _ _ _ 1 (main_while1_cond (F := F)) (main_while1_body (F := F)) rfl opsK1 [opsL1] plainL1 body1_eq 200 (WB m) Rw (cond1 m)

abbrev segs : List (Seg (F := F)) :=
  [line opsT opsT_bufs opsT_fresh (W0 m), line opsA opsA_bufs opsA_fresh (WT m), loop0 m, line opsB opsB_bufs opsB_fresh (WL0 m), loop1 m,
    line opsC opsC_bufs opsC_fresh (WL1 m)]

theorem main_run (c : Dev nD) : main (F := F) c = Pipeline.CSeg.runL (segs m) := (main_eq c).trans (by chain_rfl)

theorem segs_disjoint : (segs m).Pairwise fun s s' => Disjoint s.T s'.T :=
  Pipeline.CSeg.pairwise_disjoint_of_T_empty _ fun s _ => Finset.eq_empty_of_isEmpty s.T

abbrev T₀ (c : Dev nD) : sProp 𝕄 := iprop(held (c : Thread nD τ) (Pipeline.ucRefs τ sig) (W0 m c) ∗ Rw c)
abbrev Tₙ (c : Dev nD) : sProp 𝕄 := held (c : Thread nD τ) (Pipeline.ucRefs τ sig) (WC m c)

theorem hinit (g : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (g c) ∗ emp)) ∗ levAts L lv)
      ⊢ (|={Set.univ}=> bigSep Finset.univ (T₀ m) : sProp 𝕄) := by
  refine Pipeline.initEach L lv fun c => ?_
  rw [show unscopedBufs c (fun b => m ((c : Thread nD τ).loc b)) = held (c : Thread nD τ) (Pipeline.ucRefs τ sig) (W0 m c) from Pipeline.unscopedBufs_held c (W0 m c)]
  iintro ⟨⟨Hh, -, HO, -, -, -⟩, -⟩
  imodintro
  isplitl [Hh]; · iexact Hh
  iexists ∅; iexact HO

set_option backward.isDefEq.respectTransparency.types false in
/-- THE RUN: every weakly fair execution of the program terminates, and at its end every unscoped buffer is at `WC` and
    every counter is zero. -/
theorem run_main [∀ e, Nonempty (Elt F e)] (g : Dev nD → PrngReg) : θ_run defs (onTc (τ := τ) (main (F := F))) ⟨m, fun _ => 0, g⟩
    (fun r => (∀ (c : Dev nD), ∀ b ∈ Pipeline.ucRefs τ sig, r.2.mem ((c : Dev nD), b) = WC m c b) ∧ r.2.sem = fun _ => 0) :=
  Pipeline.θ_run_regions_loop_kit_sems (Ix := Unit) (Name := ℕ) (U := Option PUnit) (Lvl := ℕ) (pcfgs (F := F)) adm hinj defs₀ Variants.none L lv loops tk m g main (segs m)
    (fun c Q => by rw [main_run m c]) (segs_disjoint m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := T₀ m) (Tₙ := Tₙ m)
    (hch := ⟨fun _ => .rfl, fun _ => .rfl, fun _ => .rfl, fun _ => .rfl, fun _ => .rfl, fun _ => .rfl, fun _ => .rfl⟩)
    (hinit := hinit m g)
    (QY := fun c s => ∀ b ∈ Pipeline.ucRefs τ sig, s.mem ((c : Dev nD), b) = WC m c b)
    (hfin := fun c s' => by
      unfold Tₙ held
      iintro ⟨Hh, HSI⟩
      ihave Hr := (pointsTo_read_all (Pipeline.ucRefs τ sig) (fun b => ((c : Dev nD), b)) (fun b => WC m c b) s') $$ [Hh HSI]
      · isplitl [Hh] <;> iassumption
      icases Hr with ⟨%h, HSI⟩
      imodintro
      isplitr; · ipureintro; exact h
      iexact HSI)
    (hQ := fun s h _ => ⟨h, sem_eq_zero_of_no_sems (by decide) s⟩)

end Cert.ReferenceIdeal.Pf

end
-- ==== Proof.Frames.lean ====
/-
  The precondition read elementwise, and the frames of the three programs: each runs to its end, leaves every argument
  as it was and every counter at zero.
-/
module

public import proofs.«01_k».proof.Defs
public import proofs.«01_k».proof.Proof.Main
public import proofs.«01_k».proof.Proof.IdealMain
public import proofs.«01_k».proof.Proof.Ref
public import proofs.«01_k».proof.Proof.Gen.Pre_in_range
public import Idealize.ShloMosaic.Lib.ReduceAll

@[expose] public section

noncomputable section

namespace Cert.Frames

open Idealize.ShloMosaic Idealize.ShloMosaic.TcCoe Idealize.SL.Sem

/-- A word that passes both of the precondition's tests is below the table's height. -/
theorem word_lt (v : BitVec 32) (e : IntOp.andi (IntOp.cmpi .sge v 0#32) (IntOp.cmpi .slt v 100000#32) = 1#1) : v.toNat < 100000 := by
  have h2 : ∀ p q : Bool, IntOp.andi (BitVec.ofBool p) (BitVec.ofBool q) = BitVec.ofBool (p && q) := by
    intro p q; cases p <;> cases q <;> decide
  have h1 : ∀ p : Bool, (BitVec.ofBool p = 1#1) ↔ p = true := by intro p; cases p <;> decide
  simp only [IntOp.cmpi, h2, h1, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_in_range.S_.Idx := ⟨fun _ _ => funext fun a => a.elim0⟩

/-- The precondition's array being all ones, every word of the token table is below the table's height. -/
theorem words_lt {F : FTy → Type} [FloatOps F] (x : IVec Cert.Pre_in_range.S1024x200 32) (a1 a2 a3 a4 a5 a6 a7 a8 a9 a10 a11)
    (h : Cert.Pre_in_range.fn (F := F) x a1 a2 a3 a4 a5 a6 a7 a8 a9 a10 a11 = fun _ => 1#1) (j : Cert.Pre_in_range.S1024x200.Idx) :
    (x j).toNat < 100000 := by
  have e := congrFun h (Shape.Idx.first Cert.Pre_in_range.Gen.h_S_)
  exact word_lt _ (Host.reduce_andi_all _ _ _ _ _ e j)

theorem kernel_ok (m : (ℓ : Loc Cert.Kernel.nD Cert.Kernel.τ Cert.Kernel.sig) → Buf (Elt Bits) ℓ) (h : Cert.Pre_Kernel m) :
    Cert.Kernel.Pf.PreOK m := fun d j => words_lt _ _ _ _ _ _ _ _ _ _ _ _ (h d) j

theorem ideal_ok (m : (ℓ : Loc Cert.KernelIdeal.nD Cert.KernelIdeal.τ Cert.KernelIdeal.sig) → Buf (Elt Ideal) ℓ) (h : Cert.Pre_KernelIdeal m) :
    Cert.KernelIdeal.Pf.PreOK m := fun d j => words_lt _ _ _ _ _ _ _ _ _ _ _ _ (h d) j

/-- At the end of the run an argument is as it was. -/
theorem Kernel_arg {F : FTy → Type} [FloatOps F] (m : (ℓ : Loc Cert.Kernel.nD Cert.Kernel.τ Cert.Kernel.sig) → Buf (Elt F) ℓ) (r : PUnit × MemSt Cert.Kernel.nD Cert.Kernel.τ Cert.Kernel.sig (Elt F))
    (h : Cert.Kernel.Pf.QC m r) (c : Dev Cert.Kernel.nD) (b : Ref Cert.Kernel.sig .tc) (hs : b.isScoped = false)
    (h1 : b ∉ Cert.Kernel.Pf.wr1) (h2 : b ∉ Cert.Kernel.Pf.wr2) (h3 : b ∉ Cert.Kernel.Pf.wr3) (h4 : b ≠ Cert.Kernel.main_v2) (h5 : b ≠ Cert.Kernel.main_v35) :
    r.2.mem ((c.tc : Thread Cert.Kernel.nD Cert.Kernel.τ).loc b) = m ((c.tc : Thread Cert.Kernel.nD Cert.Kernel.τ).loc b) :=
  (h.1 c _ (Cert.Kernel.Pf.mem_refs b hs)).trans (Cert.Kernel.Pf.W5_kept m c b h1 h2 h3 h4 h5)

/-- The arguments at the end of the run. -/
theorem Kernel_args {F : FTy → Type} [FloatOps F] (m : (ℓ : Loc Cert.Kernel.nD Cert.Kernel.τ Cert.Kernel.sig) → Buf (Elt F) ℓ) (r : PUnit × MemSt Cert.Kernel.nD Cert.Kernel.τ Cert.Kernel.sig (Elt F))
    (h : Cert.Kernel.Pf.QC m r) (c : Dev Cert.Kernel.nD) :
    r.2.mem ((c.tc : Thread Cert.Kernel.nD Cert.Kernel.τ).loc Cert.Kernel.main_arg0) = m ((c.tc : Thread Cert.Kernel.nD Cert.Kernel.τ).loc Cert.Kernel.main_arg0)
    ∧ r.2.mem ((c.tc : Thread Cert.Kernel.nD Cert.Kernel.τ).loc Cert.Kernel.main_arg1) = m ((c.tc : Thread Cert.Kernel.nD Cert.Kernel.τ).loc Cert.Kernel.main_arg1)
    ∧ r.2.mem ((c.tc : Thread Cert.Kernel.nD Cert.Kernel.τ).loc Cert.Kernel.main_arg2) = m ((c.tc : Thread Cert.Kernel.nD Cert.Kernel.τ).loc Cert.Kernel.main_arg2)
    ∧ r.2.mem ((c.tc : Thread Cert.Kernel.nD Cert.Kernel.τ).loc Cert.Kernel.main_arg3) = m ((c.tc : Thread Cert.Kernel.nD Cert.Kernel.τ).loc Cert.Kernel.main_arg3)
    ∧ r.2.mem ((c.tc : Thread Cert.Kernel.nD Cert.Kernel.τ).loc Cert.Kernel.main_arg4) = m ((c.tc : Thread Cert.Kernel.nD Cert.Kernel.τ).loc Cert.Kernel.main_arg4)
    ∧ r.2.mem ((c.tc : Thread Cert.Kernel.nD Cert.Kernel.τ).loc Cert.Kernel.main_arg5) = m ((c.tc : Thread Cert.Kernel.nD Cert.Kernel.τ).loc Cert.Kernel.main_arg5)
    ∧ r.2.mem ((c.tc : Thread Cert.Kernel.nD Cert.Kernel.τ).loc Cert.Kernel.main_arg6) = m ((c.tc : Thread Cert.Kernel.nD Cert.Kernel.τ).loc Cert.Kernel.main_arg6)
    ∧ r.2.mem ((c.tc : Thread Cert.Kernel.nD Cert.Kernel.τ).loc Cert.Kernel.main_arg7) = m ((c.tc : Thread Cert.Kernel.nD Cert.Kernel.τ).loc Cert.Kernel.main_arg7)
    ∧ r.2.mem ((c.tc : Thread Cert.Kernel.nD Cert.Kernel.τ).loc Cert.Kernel.main_arg8) = m ((c.tc : Thread Cert.Kernel.nD Cert.Kernel.τ).loc Cert.Kernel.main_arg8)
    ∧ r.2.mem ((c.tc : Thread Cert.Kernel.nD Cert.Kernel.τ).loc Cert.Kernel.main_arg9) = m ((c.tc : Thread Cert.Kernel.nD Cert.Kernel.τ).loc Cert.Kernel.main_arg9)
    ∧ r.2.mem ((c.tc : Thread Cert.Kernel.nD Cert.Kernel.τ).loc Cert.Kernel.main_arg10) = m ((c.tc : Thread Cert.Kernel.nD Cert.Kernel.τ).loc Cert.Kernel.main_arg10)
    ∧ r.2.mem ((c.tc : Thread Cert.Kernel.nD Cert.Kernel.τ).loc Cert.Kernel.main_arg11) = m ((c.tc : Thread Cert.Kernel.nD Cert.Kernel.τ).loc Cert.Kernel.main_arg11) :=
  ⟨Kernel_arg m r h c Cert.Kernel.main_arg0 (by decide) (by decide) (by decide) (by decide) (by decide) (by decide), Kernel_arg m r h c Cert.Kernel.main_arg1 (by decide) (by decide) (by decide) (by decide) (by decide) (by decide), Kernel_arg m r h c Cert.Kernel.main_arg2 (by decide) (by decide) (by decide) (by decide) (by decide) (by decide), Kernel_arg m r h c Cert.Kernel.main_arg3 (by decide) (by decide) (by decide) (by decide) (by decide) (by decide), Kernel_arg m r h c Cert.Kernel.main_arg4 (by decide) (by decide) (by decide) (by decide) (by decide) (by decide), Kernel_arg m r h c Cert.Kernel.main_arg5 (by decide) (by decide) (by decide) (by decide) (by decide) (by decide), Kernel_arg m r h c Cert.Kernel.main_arg6 (by decide) (by decide) (by decide) (by decide) (by decide) (by decide), Kernel_arg m r h c Cert.Kernel.main_arg7 (by decide) (by decide) (by decide) (by decide) (by decide) (by decide), Kernel_arg m r h c Cert.Kernel.main_arg8 (by decide) (by decide) (by decide) (by decide) (by decide) (by decide), Kernel_arg m r h c Cert.Kernel.main_arg9 (by decide) (by decide) (by decide) (by decide) (by decide) (by decide), Kernel_arg m r h c Cert.Kernel.main_arg10 (by decide) (by decide) (by decide) (by decide) (by decide) (by decide), Kernel_arg m r h c Cert.Kernel.main_arg11 (by decide) (by decide) (by decide) (by decide) (by decide) (by decide)⟩

/-- `Cert.quiescent_Kernel`: the program runs, its arguments unchanged and its counters at zero. -/
theorem Kernel_frame : Cert.quiescent_Kernel := fun m g hpre =>
  (θ_run (Cert.Kernel.defs (F := Bits)) _ _).mono (fun r h => ⟨fun c => Kernel_args m r h c, h.2⟩)
    (Cert.Kernel.Pf.run_main (F := Bits) m g (kernel_ok m hpre))

/-- At the end of the run an argument is as it was. -/
theorem KernelIdeal_arg {F : FTy → Type} [FloatOps F] (m : (ℓ : Loc Cert.KernelIdeal.nD Cert.KernelIdeal.τ Cert.KernelIdeal.sig) → Buf (Elt F) ℓ) (r : PUnit × MemSt Cert.KernelIdeal.nD Cert.KernelIdeal.τ Cert.KernelIdeal.sig (Elt F))
    (h : Cert.KernelIdeal.Pf.QC m r) (c : Dev Cert.KernelIdeal.nD) (b : Ref Cert.KernelIdeal.sig .tc) (hs : b.isScoped = false)
    (h1 : b ∉ Cert.KernelIdeal.Pf.wr1) (h2 : b ∉ Cert.KernelIdeal.Pf.wr2) (h3 : b ∉ Cert.KernelIdeal.Pf.wr3) (h4 : b ≠ Cert.KernelIdeal.main_v2) (h5 : b ≠ Cert.KernelIdeal.main_v35) :
    r.2.mem ((c.tc : Thread Cert.KernelIdeal.nD Cert.KernelIdeal.τ).loc b) = m ((c.tc : Thread Cert.KernelIdeal.nD Cert.KernelIdeal.τ).loc b) :=
  (h.1 c _ (Cert.KernelIdeal.Pf.mem_refs b hs)).trans (Cert.KernelIdeal.Pf.W5_kept m c b h1 h2 h3 h4 h5)

/-- The arguments at the end of the run. -/
theorem KernelIdeal_args {F : FTy → Type} [FloatOps F] (m : (ℓ : Loc Cert.KernelIdeal.nD Cert.KernelIdeal.τ Cert.KernelIdeal.sig) → Buf (Elt F) ℓ) (r : PUnit × MemSt Cert.KernelIdeal.nD Cert.KernelIdeal.τ Cert.KernelIdeal.sig (Elt F))
    (h : Cert.KernelIdeal.Pf.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
    ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
    ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
    ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) :=
  ⟨KernelIdeal_arg m r h c Cert.KernelIdeal.main_arg0 (by decide) (by decide) (by decide) (by decide) (by decide) (by decide), KernelIdeal_arg m r h c Cert.KernelIdeal.main_arg1 (by decide) (by decide) (by decide) (by decide) (by decide) (by decide), KernelIdeal_arg m r h c Cert.KernelIdeal.main_arg2 (by decide) (by decide) (by decide) (by decide) (by decide) (by decide), KernelIdeal_arg m r h c Cert.KernelIdeal.main_arg3 (by decide) (by decide) (by decide) (by decide) (by decide) (by decide), KernelIdeal_arg m r h c Cert.KernelIdeal.main_arg4 (by decide) (by decide) (by decide) (by decide) (by decide) (by decide), KernelIdeal_arg m r h c Cert.KernelIdeal.main_arg5 (by decide) (by decide) (by decide) (by decide) (by decide) (by decide), KernelIdeal_arg m r h c Cert.KernelIdeal.main_arg6 (by decide) (by decide) (by decide) (by decide) (by decide) (by decide), KernelIdeal_arg m r h c Cert.KernelIdeal.main_arg7 (by decide) (by decide) (by decide) (by decide) (by decide) (by decide), KernelIdeal_arg m r h c Cert.KernelIdeal.main_arg8 (by decide) (by decide) (by decide) (by decide) (by decide) (by decide), KernelIdeal_arg m r h c Cert.KernelIdeal.main_arg9 (by decide) (by decide) (by decide) (by decide) (by decide) (by decide), KernelIdeal_arg m r h c Cert.KernelIdeal.main_arg10 (by decide) (by decide) (by decide) (by decide) (by decide) (by decide), KernelIdeal_arg m r h c Cert.KernelIdeal.main_arg11 (by decide) (by decide) (by decide) (by decide) (by decide) (by decide)⟩

/-- `Cert.quiescent_KernelIdeal`: the program runs, its arguments unchanged and its counters at zero. -/
theorem KernelIdeal_frame : Cert.quiescent_KernelIdeal := fun m g hpre =>
  (θ_run (Cert.KernelIdeal.defs (F := Ideal)) _ _).mono (fun r h => ⟨fun c => KernelIdeal_args m r h c, h.2⟩)
    (Cert.KernelIdeal.Pf.run_main (F := Ideal) m g (ideal_ok m hpre))

/-- At the end of the reference's run an argument is as it was. -/
theorem ReferenceIdeal_arg {F : FTy → Type} [FloatOps F] (m : (ℓ : Loc Cert.ReferenceIdeal.nD Cert.ReferenceIdeal.τ Cert.ReferenceIdeal.sig) → Buf (Elt F) ℓ) (r : PUnit × MemSt Cert.ReferenceIdeal.nD Cert.ReferenceIdeal.τ Cert.ReferenceIdeal.sig (Elt F))
    (h : ∀ (c : Dev Cert.ReferenceIdeal.nD), ∀ b ∈ Pipeline.ucRefs Cert.ReferenceIdeal.τ Cert.ReferenceIdeal.sig, r.2.mem (c, b) = Cert.ReferenceIdeal.Pf.WC m c b)
    (c : Dev Cert.ReferenceIdeal.nD) (b : Ref Cert.ReferenceIdeal.sig .tc) (hs : (Proc.devRef .tc b : DevRef Cert.ReferenceIdeal.τ Cert.ReferenceIdeal.sig).isScoped = false)
    (ht : b ∉ Cert.ReferenceIdeal.Pf.wrT) (ha : b ∉ Cert.ReferenceIdeal.Pf.wrA) (h1 : b ∉ Cert.ReferenceIdeal.Pf.wrK0) (h2 : b ∉ Cert.ReferenceIdeal.Pf.wrL0) (hb : b ∉ Cert.ReferenceIdeal.Pf.wrB)
    (h3 : b ∉ Cert.ReferenceIdeal.Pf.wrK1) (h4 : b ∉ Cert.ReferenceIdeal.Pf.wrL1) (hc : b ∉ Cert.ReferenceIdeal.Pf.wrC) :
    r.2.mem ((c.tc : Thread Cert.ReferenceIdeal.nD Cert.ReferenceIdeal.τ).loc b) = m ((c.tc : Thread Cert.ReferenceIdeal.nD Cert.ReferenceIdeal.τ).loc b) :=
  (h c _ (StableHlo.devRef_mem_ucRefs b hs)).trans (Cert.ReferenceIdeal.Pf.WC_kept m c b ht ha h1 h2 hb h3 h4 hc)

/-- The arguments at the end of the reference's run. -/
theorem ReferenceIdeal_args {F : FTy → Type} [FloatOps F] (m : (ℓ : Loc Cert.ReferenceIdeal.nD Cert.ReferenceIdeal.τ Cert.ReferenceIdeal.sig) → Buf (Elt F) ℓ) (r : PUnit × MemSt Cert.ReferenceIdeal.nD Cert.ReferenceIdeal.τ Cert.ReferenceIdeal.sig (Elt F))
    (h : ∀ (c : Dev Cert.ReferenceIdeal.nD), ∀ b ∈ Pipeline.ucRefs Cert.ReferenceIdeal.τ Cert.ReferenceIdeal.sig, r.2.mem (c, b) = Cert.ReferenceIdeal.Pf.WC m c b) (c : Dev Cert.ReferenceIdeal.nD) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
    ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
    ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
    ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
    ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
    ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
    ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) :=
  ⟨ReferenceIdeal_arg m r h c Cert.ReferenceIdeal.main_arg0 rfl (by decide) (by decide) (by decide) (by decide) (by decide) (by decide) (by decide) (by decide), ReferenceIdeal_arg m r h c Cert.ReferenceIdeal.main_arg1 rfl (by decide) (by decide) (by decide) (by decide) (by decide) (by decide) (by decide) (by decide), ReferenceIdeal_arg m r h c Cert.ReferenceIdeal.main_arg2 rfl (by decide) (by decide) (by decide) (by decide) (by decide) (by decide) (by decide) (by decide), ReferenceIdeal_arg m r h c Cert.ReferenceIdeal.main_arg3 rfl (by decide) (by decide) (by decide) (by decide) (by decide) (by decide) (by decide) (by decide), ReferenceIdeal_arg m r h c Cert.ReferenceIdeal.main_arg4 rfl (by decide) (by decide) (by decide) (by decide) (by decide) (by decide) (by decide) (by decide), ReferenceIdeal_arg m r h c Cert.ReferenceIdeal.main_arg5 rfl (by decide) (by decide) (by decide) (by decide) (by decide) (by decide) (by decide) (by decide), ReferenceIdeal_arg m r h c Cert.ReferenceIdeal.main_arg6 rfl (by decide) (by decide) (by decide) (by decide) (by decide) (by decide) (by decide) (by decide), ReferenceIdeal_arg m r h c Cert.ReferenceIdeal.main_arg7 rfl (by decide) (by decide) (by decide) (by decide) (by decide) (by decide) (by decide) (by decide), ReferenceIdeal_arg m r h c Cert.ReferenceIdeal.main_arg8 rfl (by decide) (by decide) (by decide) (by decide) (by decide) (by decide) (by decide) (by decide), ReferenceIdeal_arg m r h c Cert.ReferenceIdeal.main_arg9 rfl (by decide) (by decide) (by decide) (by decide) (by decide) (by decide) (by decide) (by decide), ReferenceIdeal_arg m r h c Cert.ReferenceIdeal.main_arg10 rfl (by decide) (by decide) (by decide) (by decide) (by decide) (by decide) (by decide) (by decide), ReferenceIdeal_arg m r h c Cert.ReferenceIdeal.main_arg11 rfl (by decide) (by decide) (by decide) (by decide) (by decide) (by decide) (by decide) (by decide)⟩

/-- `Cert.quiescent_ReferenceIdeal`: the reference runs, its arguments unchanged and its counters at zero. -/
theorem ReferenceIdeal_frame : Cert.quiescent_ReferenceIdeal := fun m g _ =>
  (θ_run (Cert.ReferenceIdeal.defs (F := Ideal)) _ _).mono (fun r h => ⟨fun c => ReferenceIdeal_args m r h.1 c, h.2⟩)
    (Cert.ReferenceIdeal.Pf.run_main (F := Ideal) m g)

/-- The same from the memories the precondition admits. -/
theorem ReferenceIdeal_frame_pre : Cert.quiescent_ReferenceIdeal_pre_in_range := fun m g _ =>
  (θ_run (Cert.ReferenceIdeal.defs (F := Ideal)) _ _).mono (fun r h => ⟨fun c => ReferenceIdeal_args m r h.1 c, h.2⟩)
    (Cert.ReferenceIdeal.Pf.run_main (F := Ideal) m g)

end Cert.Frames

end
-- ==== Proof.Recur.lean ====
/-
  The recurrence in plain numbers: one step of the cell at the extended reals, the run of the steps over a sequence of
  rows, and the two identities that let the kernel fold a factor one half into its weights.
-/
module

public import Idealize.ShloMosaic.Lib.Pointwise
public import Idealize.ShloMosaic.Lib.IdealHost
public import Mathlib.Analysis.SpecialFunctions.Trigonometric.DerivHyp

@[expose] public section

namespace Cert.Recur
open Idealize.ShloMosaic

/-! ## Extended reals -/

/-- The word of one half reads as one half. -/
theorem ofBits_half : Ideal.ofBits .f32 0x3F000000#32 = ((1 / 2 : ℝ) : EReal) := by
  simp [Ideal.ofBits, Ideal.ieee]
  rw [← EReal.coe_mul]
  norm_num

/-- A nonnegative real factor moves out of a sum. -/
theorem add_mul_coe (a b : EReal) {s : ℝ} (hs : 0 ≤ s) : (a + b) * (s : EReal) = a * s + b * s :=
  EReal.right_distrib_of_nonneg_of_ne_top (EReal.coe_nonneg.mpr hs) (EReal.coe_ne_top s) a b

/-- A nonnegative real factor moves out of a finite sum. -/
theorem sum_mul_coe {ι : Type*} (S : Finset ι) (f : ι → EReal) {s : ℝ} (hs : 0 ≤ s) : (∑ k ∈ S, f k * (s : EReal)) = (∑ k ∈ S, f k) * s := by
  classical
  induction S using Finset.induction_on with
  | empty => simp
  | insert a S ha ih => rw [Finset.sum_insert ha, Finset.sum_insert ha, ih, add_mul_coe _ _ hs]

/-- A hyperbolic tangent is a real number. -/
theorem tanh_real (z : EReal) : ∃ t : ℝ, Ideal.tanh z = (t : EReal) := by
  induction z with
  | bot => exact ⟨-1, rfl⟩
  | top => exact ⟨1, rfl⟩
  | coe r => exact ⟨Real.tanh r, rfl⟩

/-- The logistic function at a real number. -/
theorem logistic_coe (r : ℝ) : Ideal.logistic (r : EReal) = (((1 + Real.exp (-r))⁻¹ : ℝ) : EReal) := by
  have hp : (0 : ℝ) < 1 + Real.exp (-r) := by positivity
  have e : Ideal.exp (-(r : EReal)) = ((Real.exp (-r) : ℝ) : EReal) := rfl
  have e1 : (1 : EReal) + ((Real.exp (-r) : ℝ) : EReal) = ((1 + Real.exp (-r) : ℝ) : EReal) := by push_cast; rfl
  unfold Ideal.logistic
  rw [e, e1]
  unfold Ideal.div
  rw [if_neg (by exact_mod_cast hp.ne'), one_mul, EReal.coe_inv]

theorem real_half (r : ℝ) : (1 + Real.exp (-r))⁻¹ = (1 / 2) * (Real.tanh (r * (1 / 2)) + 1) := by
  have h1 : Real.exp (-r) = Real.exp (-(r * (1 / 2))) * Real.exp (-(r * (1 / 2))) := by rw [← Real.exp_add]; congr 1; ring
  have ha : 0 < Real.exp (r * (1 / 2)) := Real.exp_pos _
  rw [Real.tanh_eq_sinh_div_cosh, Real.sinh_eq, Real.cosh_eq, h1, Real.exp_neg]
  generalize Real.exp (r * (1 / 2)) = a at ha
  field_simp
  ring

/-- The logistic function is half of one more than the hyperbolic tangent of the half, at every extended real. -/
theorem half_tanh (z : EReal) : ∃ t : ℝ, Ideal.tanh (z * ((1 / 2 : ℝ) : EReal)) = (t : EReal) ∧ Ideal.logistic z = (((1 / 2) * (t + 1) : ℝ) : EReal) := by
  induction z with
  | bot =>
    refine ⟨-1, ?_, ?_⟩
    · rw [EReal.bot_mul_coe_of_pos (by norm_num)]; rfl
    · have e : Ideal.exp (-(⊥ : EReal)) = ⊤ := rfl
      have e1 : (1 : EReal) + ⊤ = ⊤ := EReal.coe_add_top 1
      unfold Ideal.logistic
      rw [e, e1]
      simp [Ideal.div]
  | top =>
    refine ⟨1, ?_, ?_⟩
    · rw [EReal.top_mul_coe_of_pos (by norm_num)]; rfl
    · have e : Ideal.exp (-(⊤ : EReal)) = 0 := rfl
      have e1 : ((1 / 2 * (1 + 1) : ℝ) : EReal) = 1 := by norm_num
      unfold Ideal.logistic
      rw [e, e1]
      simp [Ideal.div]
  | coe r =>
    refine ⟨Real.tanh (r * (1 / 2)), ?_, ?_⟩
    · rw [← EReal.coe_mul]; rfl
    · rw [logistic_coe, real_half]

/-- The kernel's product with a gate: half of `tanh (z / 2) * g + g` is the logistic of `z` times `g`, for a real `g`. -/
theorem gate_eq (z g : EReal) (hg : ∃ r : ℝ, g = (r : EReal)) :
    ((1 / 2 : ℝ) : EReal) * (Ideal.tanh (z * ((1 / 2 : ℝ) : EReal)) * g + g) = Ideal.logistic z * g := by
  obtain ⟨t, ht, hl⟩ := half_tanh z
  obtain ⟨r, rfl⟩ := hg
  rw [ht, hl]
  norm_cast
  ring

/-! ## The cell -/

/-- A hidden and a cell state: a number for each of the 1024 sequences and 128 lanes. -/
structure State where
  h : Fin 1024 → Fin 128 → EReal
  c : Fin 1024 → Fin 128 → EReal

/-- The weights of one direction. -/
structure Weights where
  W : Fin 512 → Fin 128 → EReal
  U : Fin 512 → Fin 128 → EReal
  p : Fin 512 → EReal
  q : Fin 512 → EReal

/-- The preactivation of gate lane `g` over the row `x` and the hidden state `h`. -/
noncomputable def pre (w : Weights) (x h : Fin 128 → EReal) (g : Fin 512) : EReal :=
  ((∑ k : Fin 128, x k * w.W g k) + ∑ k : Fin 128, h k * w.U g k) + w.p g + w.q g

/-- Lane `j` of the gate whose lanes begin at `o`. -/
def lane (o : ℕ) (ho : o + 128 ≤ 512) (j : Fin 128) : Fin 512 := ⟨o + j.val, by omega⟩

theorem lane_zero (j : Fin 128) (h) (h') : (⟨j.val, h⟩ : Fin 512) = lane 0 h' j := Fin.ext (Nat.zero_add _).symm

/-- The next cell state. -/
noncomputable def nextC (w : Weights) (x h : Fin 128 → EReal) (c : EReal) (j : Fin 128) : EReal :=
  Ideal.logistic (pre w x h (lane 128 (by decide) j)) * c
    + Ideal.logistic (pre w x h (lane 0 (by decide) j)) * Ideal.tanh (pre w x h (lane 256 (by decide) j))

/-- The next hidden state. -/
noncomputable def nextH (w : Weights) (x h : Fin 128 → EReal) (c : EReal) (j : Fin 128) : EReal :=
  Ideal.logistic (pre w x h (lane 384 (by decide) j)) * Ideal.tanh (nextC w x h c j)

/-- One step over the rows `x`. -/
noncomputable def next (w : Weights) (x : Fin 1024 → Fin 128 → EReal) (s : State) : State :=
  ⟨fun b j => nextH w (x b) (s.h b) (s.c b j) j, fun b j => nextC w (x b) (s.h b) (s.c b j) j⟩

/-- The state after `n` steps over the rows `xs 0`, `xs 1`, … -/
noncomputable def run (w : Weights) (xs : ℕ → Fin 1024 → Fin 128 → EReal) : ℕ → State
  | 0 => ⟨fun _ _ => 0, fun _ _ => 0⟩
  | n + 1 => next w (xs n) (run w xs n)

/-- The rows of the table `X` named by the words `I`, by step, sequence and lane. -/
noncomputable def rowsAt (I : (⟨2, ![1024, 200]⟩ : Shape).Idx → BitVec 32) (X : (⟨2, ![100000, 128]⟩ : Shape).Idx → EReal) (t : Fin 200) (b : Fin 1024) (k : Fin 128) : EReal :=
  X (ix2 ⟨(I (ix2 b t)).toNat % 100000, Nat.mod_lt _ (by decide)⟩ k)

/-- The rows the forward direction reads, step by step; -/
noncomputable def fwd (X : Fin 200 → Fin 1024 → Fin 128 → EReal) (n : ℕ) : Fin 1024 → Fin 128 → EReal := X ⟨n % 200, Nat.mod_lt _ (by omega)⟩
/-- the backward direction reads them from the last one on. -/
noncomputable def bwd (X : Fin 200 → Fin 1024 → Fin 128 → EReal) (n : ℕ) : Fin 1024 → Fin 128 → EReal := X ⟨199 - n % 200, by omega⟩

/-- The result: the two last hidden states against the two halves of the last layer, and its bias. -/
noncomputable def result (hf hb : Fin 1024 → Fin 128 → EReal) (v : Fin 256 → EReal) (b0 : EReal) (b : Fin 1024) : EReal :=
  ((∑ k : Fin 128, hf b k * v ⟨k.val, by omega⟩) + ∑ k : Fin 128, hb b k * v ⟨128 + k.val, by omega⟩) + b0

end Cert.Recur
-- ==== Proof.KerVal.lean ====
/-
  The kernel's recurrence at the extended reals, read at an index: each step of the state kept in scratch is a step of
  the recurrence in plain numbers.
-/
module

public import proofs.«01_k».proof.Proof.IdealLstm
public import proofs.«01_k».proof.Proof.Recur

@[expose] public section

set_option maxRecDepth 16384

namespace Cert.KernelIdeal.Pf
open Idealize.ShloMosaic Idealize.ShloMosaic.TcCoe
open Cert.KernelIdeal Cert.KernelIdeal.Gen

/-- A preactivation the kernel computes, read at an index. -/
theorem pay6_apply (x : Vec Ideal S1x1024x128 .f32) (h : Vec Ideal S1024x128 .f32) (w : Vec Ideal S256x512 .f32) (v : Vec Ideal S1x512 .f32)
    (b : Fin 1024) (g : Fin 512) :
    k1_pay6 x h w v (ix2 b g) = ((∑ k : Fin 128, x (ix3 0 b k) * w (ix2 ⟨k.val, by omega⟩ g)) + ∑ k : Fin 128, h (ix2 b k) * w (ix2 ⟨128 + k.val, by omega⟩ g)) + v (ix2 0 g) := by
  pointwise [k1_pay6]

/-- The next cell state over the preactivations. -/
theorem pay7_apply (x : Vec Ideal S1x1024x128 .f32) (h c : Vec Ideal S1024x128 .f32) (w : Vec Ideal S256x512 .f32) (v : Vec Ideal S1x512 .f32)
    (b : Fin 1024) (j : Fin 128) (G : Vec Ideal S1024x512 .f32) (hG : k1_pay6 x h w v = G) :
    k1_pay7 x h c w v (ix2 b j) = Ideal.logistic (G (ix2 b ⟨128 + j.val, by omega⟩)) * c (ix2 b j)
      + Ideal.ofBits FTy.f32 0x3F000000#32 * (Ideal.tanh (G (ix2 b ⟨j.val, by omega⟩)) * Ideal.tanh (G (ix2 b ⟨256 + j.val, by omega⟩)) + Ideal.tanh (G (ix2 b ⟨256 + j.val, by omega⟩))) := by
  unfold k1_pay7
  rw [hG]
  pointwise

/-- The next hidden state over the preactivations and the next cell state. -/
theorem pay8_apply (x : Vec Ideal S1x1024x128 .f32) (h c : Vec Ideal S1024x128 .f32) (w : Vec Ideal S256x512 .f32) (v : Vec Ideal S1x512 .f32)
    (b : Fin 1024) (j : Fin 128) (G : Vec Ideal S1024x512 .f32) (hG : k1_pay6 x h w v = G) (C : Vec Ideal S1024x128 .f32) (hC : k1_pay7 x h c w v = C) :
    k1_pay8 x h c w v (ix2 b j)
      = Ideal.ofBits FTy.f32 0x3F000000#32 * (Ideal.tanh (G (ix2 b ⟨384 + j.val, by omega⟩)) * Ideal.tanh (C (ix2 b j)) + Ideal.tanh (C (ix2 b j))) := by
  unfold k1_pay8
  rw [hG, hC]
  pointwise

/-- The backward direction computes as the forward one does. -/
theorem pay11_eq (x : Vec Ideal S1x1024x128 .f32) (h c : Vec Ideal S1024x128 .f32) (w : Vec Ideal S256x512 .f32) (v : Vec Ideal S1x512 .f32) :
    k1_pay11 (k1_pay9 x) h c w v = k1_pay7 x h c w v := rfl

theorem pay12_eq (x : Vec Ideal S1x1024x128 .f32) (h c : Vec Ideal S1024x128 .f32) (w : Vec Ideal S256x512 .f32) (v : Vec Ideal S1x512 .f32) :
    k1_pay12 (k1_pay9 x) h c w v = k1_pay8 x h c w v := rfl

theorem pay13_apply (x : Vec Ideal S1024x128 .f32) (b : Fin 1024) (j : Fin 128) : k1_pay13 (F := Ideal) x (ix2 b j) = x (ix2 b j) := by
  pointwise [k1_pay13]

theorem pay14_apply (x : Vec Ideal S1024x128 .f32) (b : Fin 1024) (j : Fin 128) : k1_pay14 (F := Ideal) x (ix2 b j) = x (ix2 b j) := by
  pointwise [k1_pay14]

theorem pay15_eq (x : Vec Ideal S1x1024x128 .f32) (h c : Vec Ideal S1024x128 .f32) (w : Vec Ideal S256x512 .f32) (v : Vec Ideal S1x512 .f32) :
    k1_pay15 (k1_pay9 x) h c w v = k1_pay13 (k1_pay8 x h c w v) := rfl

theorem pay16_eq (x : Vec Ideal S1x1024x128 .f32) (h c : Vec Ideal S1024x128 .f32) (w : Vec Ideal S256x512 .f32) (v : Vec Ideal S1x512 .f32) :
    k1_pay16 (k1_pay9 x) h c w v = k1_pay14 (k1_pay7 x h c w v) := rfl

/-- The last layer, read at an index: every column holds the same number. -/
theorem pay1_apply (hf hb : Vec Ideal S1024x128 .f32) (u : Vec Ideal S1x256 .f32) (z : EReal) (b : Fin 1024) (j : Fin 128) :
    k1_pay1 (F := Ideal) hf hb u z (ix2 b j)
      = (∑ k : Fin 128, (hf (ix2 b k) * u (ix2 0 ⟨k.val, by omega⟩) + hb (ix2 b k) * u (ix2 0 ⟨128 + k.val, by omega⟩))) + z := by
  pointwise [k1_pay1]

/-! ## The folded factor -/

/-- The factor folded into the weights of a gate lane: one half for the input and output gates, one for the others. -/
noncomputable def half (g : Fin 512) : ℝ := if 128 ≤ g.val ∧ g.val < 384 then 1 else 1 / 2

theorem half_nonneg (g : Fin 512) : 0 ≤ half g := by
  unfold half; split <;> norm_num

/-- The kernel's packed weights hold the weights of one direction, each times its factor. -/
structure Packed (w : Vec Ideal S256x512 .f32) (v : Vec Ideal S1x512 .f32) (a : Recur.Weights) : Prop where
  hW : ∀ (g : Fin 512) (k : Fin 128), w (ix2 ⟨k.val, by omega⟩ g) = a.W g k * (half g : EReal)
  hU : ∀ (g : Fin 512) (k : Fin 128), w (ix2 ⟨128 + k.val, by omega⟩ g) = a.U g k * (half g : EReal)
  hb : ∀ g : Fin 512, v (ix2 0 g) = (a.p g + a.q g) * (half g : EReal)

/-- A preactivation over the packed weights is the plain one times the factor. -/
theorem pay6_packed {w : Vec Ideal S256x512 .f32} {v : Vec Ideal S1x512 .f32} {a : Recur.Weights} (hp : Packed w v a) (x : Vec Ideal S1x1024x128 .f32)
    (h : Vec Ideal S1024x128 .f32) (b : Fin 1024) (g : Fin 512) :
    k1_pay6 x h w v (ix2 b g) = Recur.pre a (fun k => x (ix3 0 b k)) (fun k => h (ix2 b k)) g * (half g : EReal) := by
  rw [pay6_apply, hp.hb]
  simp only [hp.hW, hp.hU, ← mul_assoc]
  rw [Recur.sum_mul_coe _ _ (half_nonneg g), Recur.sum_mul_coe _ _ (half_nonneg g), ← Recur.add_mul_coe _ _ (half_nonneg g),
    ← Recur.add_mul_coe _ _ (half_nonneg g), Recur.pre, add_assoc, add_assoc, add_assoc]

theorem half_in (j : Fin 128) (h) : half ⟨j.val, h⟩ = 1 / 2 := if_neg (fun e => absurd e.1 (by simp))
theorem half_forget (j : Fin 128) (h) : half ⟨128 + j.val, h⟩ = 1 := if_pos (by simp; omega)
theorem half_cell (j : Fin 128) (h) : half ⟨256 + j.val, h⟩ = 1 := if_pos (by simp; omega)
theorem half_out (j : Fin 128) (h) : half ⟨384 + j.val, h⟩ = 1 / 2 := if_neg (by simp)

/-- The next cell state of the kernel is the next cell state in plain numbers. -/
theorem cell_eq {w : Vec Ideal S256x512 .f32} {v : Vec Ideal S1x512 .f32} {a : Recur.Weights} (hp : Packed w v a) (x : Vec Ideal S1x1024x128 .f32)
    (h c : Vec Ideal S1024x128 .f32) (b : Fin 1024) (j : Fin 128) :
    k1_pay7 x h c w v (ix2 b j) = Recur.nextC a (fun k => x (ix3 0 b k)) (fun k => h (ix2 b k)) (c (ix2 b j)) j := by
  rw [pay7_apply x h c w v b j _ rfl]
  simp only [pay6_packed hp, half_in, half_forget, half_cell, EReal.coe_one, mul_one]
  rw [Recur.ofBits_half, Recur.gate_eq _ _ (Recur.tanh_real _), Recur.lane_zero j _ (by decide)]
  rfl

/-- The next hidden state of the kernel is the next hidden state in plain numbers. -/
theorem hidden_eq {w : Vec Ideal S256x512 .f32} {v : Vec Ideal S1x512 .f32} {a : Recur.Weights} (hp : Packed w v a) (x : Vec Ideal S1x1024x128 .f32)
    (h c : Vec Ideal S1024x128 .f32) (b : Fin 1024) (j : Fin 128) :
    k1_pay8 x h c w v (ix2 b j) = Recur.nextH a (fun k => x (ix3 0 b k)) (fun k => h (ix2 b k)) (c (ix2 b j)) j := by
  rw [pay8_apply x h c w v b j _ rfl _ rfl, cell_eq hp]
  simp only [pay6_packed hp, half_out]
  rw [Recur.ofBits_half, Recur.gate_eq _ _ (Recur.tanh_real _)]
  rfl

/-! ## The state after some steps -/

/-- The kernel's state holds the states of the two runs. -/
structure Holds (s : Cells Ideal) (f g : Recur.State) : Prop where
  hf : ∀ b j, s.hf (ix2 b j) = f.h b j
  cf : ∀ b j, s.cf (ix2 b j) = f.c b j
  hb : ∀ b j, s.hb (ix2 b j) = g.h b j
  cb : ∀ b j, s.cb (ix2 b j) = g.c b j

/-- The cleared state holds the two states of zeros. -/
theorem holds_zero : Holds (zeroCells (F := Ideal)) ⟨fun _ _ => 0, fun _ _ => 0⟩ ⟨fun _ _ => 0, fun _ _ => 0⟩ where
  hf b j := by
    show k1_pay2 (F := Ideal) (ix2 b j) = 0
    pointwise [k1_pay2]
  cf b j := by
    show k1_pay3 (F := Ideal) (ix2 b j) = 0
    pointwise [k1_pay3]
  hb b j := by
    show k1_pay4 (F := Ideal) (ix2 b j) = 0
    pointwise [k1_pay4]
  cb b j := by
    show k1_pay5 (F := Ideal) (ix2 b j) = 0
    pointwise [k1_pay5]

/-- A step of the kernel's state is a step of both runs. -/
theorem holds_step {x2 x3 : Vec Ideal S256x512 .f32} {x4 x5 : Vec Ideal S1x512 .f32} {a a' : Recur.Weights} (hp : Packed x2 x4 a) (hp' : Packed x3 x5 a')
    (x0 x1 : Vec Ideal S1x1024x128 .f32) {s : Cells Ideal} {f g : Recur.State} (hs : Holds s f g) :
    Holds (stepCells x0 x1 x2 x3 x4 x5 s) (Recur.next a (fun b k => x0 (ix3 0 b k)) f) (Recur.next a' (fun b k => x1 (ix3 0 b k)) g) where
  hf b j := by
    show k1_pay13 (k1_pay8 x0 s.hf s.cf x2 x4) (ix2 b j) = _
    rw [pay13_apply, hidden_eq hp, funext (hs.hf b), hs.cf]
    rfl
  cf b j := by
    show k1_pay14 (k1_pay7 x0 s.hf s.cf x2 x4) (ix2 b j) = _
    rw [pay14_apply, cell_eq hp, funext (hs.hf b), hs.cf]
    rfl
  hb b j := by
    show k1_pay15 (k1_pay9 x1) s.hb s.cb x3 x5 (ix2 b j) = _
    rw [pay15_eq, pay13_apply, hidden_eq hp', funext (hs.hb b), hs.cb]
    rfl
  cb b j := by
    show k1_pay16 (k1_pay9 x1) s.hb s.cb x3 x5 (ix2 b j) = _
    rw [pay16_eq, pay14_apply, cell_eq hp', funext (hs.hb b), hs.cb]
    rfl

/-- The result the last step stores is the result over the two runs, one step further. -/
theorem lastOut_apply {x2 x3 : Vec Ideal S256x512 .f32} {x4 x5 : Vec Ideal S1x512 .f32} {a a' : Recur.Weights} (hp : Packed x2 x4 a) (hp' : Packed x3 x5 a')
    (x0 x1 : Vec Ideal S1x1024x128 .f32) (x6 : Vec Ideal S1x256 .f32) (x7 : Vec Ideal S1x1 .f32) {s : Cells Ideal} {f g : Recur.State} (hs : Holds s f g)
    (b : Fin 1024) (j : Fin 128) :
    lastOut x0 x1 x2 x3 x4 x5 x6 x7 s (ix2 b j)
      = Recur.result (Recur.next a (fun b k => x0 (ix3 0 b k)) f).h (Recur.next a' (fun b k => x1 (ix3 0 b k)) g).h (fun k => x6 (ix2 0 k)) (x7 (ix2 0 0)) b := by
  have e : x7 (Shape.Idx.first (s := S1x1) (by decide)) = x7 (ix2 0 0) := congrArg x7 (by idx_ext)
  unfold lastOut
  rw [e, pay1_apply, Finset.sum_add_distrib, pay12_eq]
  simp only [hidden_eq hp, hidden_eq hp', hs.hf, hs.cf, hs.hb, hs.cb]
  rfl

end Cert.KernelIdeal.Pf
-- ==== Proof.KerArr.lean ====
/-
  The result of the kernel's recurrence: the array the TensorCore call leaves is what the last step stores, over the
  blocks of rows each step reads.
-/
module

public import proofs.«01_k».proof.Proof.IdealHost
public import proofs.«01_k».proof.Proof.KerVal
public import Idealize.ShloMosaic.Lib.Pipeline.ValueKit.Geometry

@[expose] public section

set_option maxRecDepth 16384

namespace Cert.KernelIdeal.Pf
open Idealize.ShloMosaic Idealize.ShloMosaic.TcCoe
open Cert.KernelIdeal Cert.KernelIdeal.Gen

variable {F : FTy → Type} [FloatOps F] (V : (c : Dev nD) → (b : Ref sig .tc) → Buf (Elt F) ((c : Thread nD τ).loc b))

/-- The array of the result is what the last step stores. -/
theorem out_last (c : Dev nD) (i : S1024x128.Idx) : ((dat V c).arrAt 8 cfg1.N : S1024x128.Idx → Elt F .f32) i = outAt V c (pt 199) i := by
  refine ((dat V c).arrAt_emb_eq_after_last 8 (pt 199) (by decide +kernel) i).trans ?_
  rfl

theorem at0 : ∀ t : Fin cfg1.N, win1_0.index t (0 : Fin 3) = t.val ∧ win1_0.index t (1 : Fin 3) = 0 ∧ win1_0.index t (2 : Fin 3) = 0 :=
  (by decide +kernel : ∀ t : Fin grid1.N, _)

theorem at1 : ∀ t : Fin cfg1.N, win1_1.index t (0 : Fin 3) = 199 - t.val ∧ win1_1.index t (1 : Fin 3) = 0 ∧ win1_1.index t (2 : Fin 3) = 0 :=
  (by decide +kernel : ∀ t : Fin grid1.N, _)

/-- Block `t` of the forward rows is row `t`. -/
theorem blk0_apply (c : Dev nD) (t : Fin cfg1.N) (b : Fin 1024) (k : Fin 128) :
    (blk V c 0 t : S1x1024x128.Idx → Elt F .f32) (ix3 0 b k) = (V c main_v3 : S200x1024x128.Idx → Elt F .f32) (ix3 ⟨t.val, lt_of_lt_of_eq t.isLt N_1⟩ b k) := by
  obtain ⟨e0, e1, e2⟩ := at0 t
  refine congrArg (V c main_v3 : S200x1024x128.Idx → Elt F .f32) (funext fun a => Fin.ext ?_)
  match a with
  | ⟨0, _⟩ => show win1_0.index t (0 : Fin 3) * 1 + 1 * 0 = t.val; omega
  | ⟨1, _⟩ => show win1_0.index t (1 : Fin 3) * 1024 + 1 * b.val = b.val; omega
  | ⟨2, _⟩ => show win1_0.index t (2 : Fin 3) * 128 + 1 * k.val = k.val; omega

/-- Block `t` of the backward rows is row `199 - t`. -/
theorem blk1_apply (c : Dev nD) (t : Fin cfg1.N) (b : Fin 1024) (k : Fin 128) :
    (blk V c 1 t : S1x1024x128.Idx → Elt F .f32) (ix3 0 b k) = (V c main_v3 : S200x1024x128.Idx → Elt F .f32) (ix3 ⟨199 - t.val, by omega⟩ b k) := by
  obtain ⟨e0, e1, e2⟩ := at1 t
  refine congrArg (V c main_v3 : S200x1024x128.Idx → Elt F .f32) (funext fun a => Fin.ext ?_)
  match a with
  | ⟨0, _⟩ => show win1_1.index t (0 : Fin 3) * 1 + 1 * 0 = 199 - t.val; omega
  | ⟨1, _⟩ => show win1_1.index t (1 : Fin 3) * 1024 + 1 * b.val = b.val; omega
  | ⟨2, _⟩ => show win1_1.index t (2 : Fin 3) * 128 + 1 * k.val = k.val; omega

/-- The block of the packed forward weights is the whole array. -/
theorem blk2_eq (c : Dev nD) (t : Fin cfg1.N) : (blk V c 2 t : S256x512.Idx → Elt F .f32) = (V c main_v16 : S256x512.Idx → Elt F .f32) := by
  funext y
  refine congrArg (V c main_v16 : S256x512.Idx → Elt F .f32) (funext fun a => Fin.ext ?_)
  match a with
  | ⟨0, _⟩ => show 0 * 256 + 1 * (y 0).val = (y 0).val; omega
  | ⟨1, _⟩ => show 0 * 512 + 1 * (y 1).val = (y 1).val; omega

/-- The block of the packed backward weights is the whole array. -/
theorem blk3_eq (c : Dev nD) (t : Fin cfg1.N) : (blk V c 3 t : S256x512.Idx → Elt F .f32) = (V c main_v31 : S256x512.Idx → Elt F .f32) := by
  funext y
  refine congrArg (V c main_v31 : S256x512.Idx → Elt F .f32) (funext fun a => Fin.ext ?_)
  match a with
  | ⟨0, _⟩ => show 0 * 256 + 1 * (y 0).val = (y 0).val; omega
  | ⟨1, _⟩ => show 0 * 512 + 1 * (y 1).val = (y 1).val; omega

/-- The block of the packed forward bias is the whole array. -/
theorem blk4_eq (c : Dev nD) (t : Fin cfg1.N) : (blk V c 4 t : S1x512.Idx → Elt F .f32) = (V c main_v18 : S1x512.Idx → Elt F .f32) := by
  funext y
  refine congrArg (V c main_v18 : S1x512.Idx → Elt F .f32) (funext fun a => Fin.ext ?_)
  match a with
  | ⟨0, _⟩ => show 0 * 1 + 1 * (y 0).val = (y 0).val; omega
  | ⟨1, _⟩ => show 0 * 512 + 1 * (y 1).val = (y 1).val; omega

/-- The block of the packed backward bias is the whole array. -/
theorem blk5_eq (c : Dev nD) (t : Fin cfg1.N) : (blk V c 5 t : S1x512.Idx → Elt F .f32) = (V c main_v33 : S1x512.Idx → Elt F .f32) := by
  funext y
  refine congrArg (V c main_v33 : S1x512.Idx → Elt F .f32) (funext fun a => Fin.ext ?_)
  match a with
  | ⟨0, _⟩ => show 0 * 1 + 1 * (y 0).val = (y 0).val; omega
  | ⟨1, _⟩ => show 0 * 512 + 1 * (y 1).val = (y 1).val; omega

/-- The block of the last layer's weights is the whole array. -/
theorem blk6_eq (c : Dev nD) (t : Fin cfg1.N) : (blk V c 6 t : S1x256.Idx → Elt F .f32) = (V c main_arg10 : S1x256.Idx → Elt F .f32) := by
  funext y
  refine congrArg (V c main_arg10 : S1x256.Idx → Elt F .f32) (funext fun a => Fin.ext ?_)
  match a with
  | ⟨0, _⟩ => show 0 * 1 + 1 * (y 0).val = (y 0).val; omega
  | ⟨1, _⟩ => show 0 * 256 + 1 * (y 1).val = (y 1).val; omega

/-- The block of the last layer's bias is the whole array. -/
theorem blk7_eq (c : Dev nD) (t : Fin cfg1.N) : (blk V c 7 t : S1x1.Idx → Elt F .f32) = (V c main_v34 : S1x1.Idx → Elt F .f32) := by
  funext y
  refine congrArg (V c main_v34 : S1x1.Idx → Elt F .f32) (funext fun a => Fin.ext ?_)
  match a with
  | ⟨0, _⟩ => show 0 * 1 + 1 * (y 0).val = (y 0).val; omega
  | ⟨1, _⟩ => show 0 * 1 + 1 * (y 1).val = (y 1).val; omega

/-! ## The run of the state, in plain numbers -/

section Numbers

variable (V : (c : Dev nD) → (b : Ref sig .tc) → Buf (Elt Ideal) ((c : Thread nD τ).loc b))

/-- The gathered rows by step, sequence and lane. -/
noncomputable def rows3 (c : Dev nD) (t : Fin 200) (b : Fin 1024) (k : Fin 128) : EReal := (V c main_v3 : S200x1024x128.Idx → EReal) (ix3 t b k)

/-- After any number of steps the kernel's state holds the states of the two runs. -/
theorem stAt_holds (c : Dev nD) {a a' : Recur.Weights} (hp : Packed (V c main_v16) (V c main_v18) a) (hp' : Packed (V c main_v31) (V c main_v33) a') (n : ℕ) :
    Holds (stAt V c n) (Recur.run a (Recur.fwd (rows3 V c)) n) (Recur.run a' (Recur.bwd (rows3 V c)) n) := by
  induction n with
  | zero => exact holds_zero
  | succ n ih =>
    have h2 := blk2_eq V c (pt n)
    have h3 := blk3_eq V c (pt n)
    have h4 := blk4_eq V c (pt n)
    have h5 := blk5_eq V c (pt n)
    have h := holds_step (x2 := blk V c 2 (pt n)) (x3 := blk V c 3 (pt n)) (x4 := blk V c 4 (pt n)) (x5 := blk V c 5 (pt n)) (a := a) (a' := a')
      (h2 ▸ h4 ▸ hp) (h3 ▸ h5 ▸ hp') (blk V c 0 (pt n)) (blk V c 1 (pt n)) ih
    have e0 : (fun b k => (blk V c 0 (pt n) : S1x1024x128.Idx → EReal) (ix3 0 b k)) = Recur.fwd (rows3 V c) n := funext fun b => funext fun k => blk0_apply V c (pt n) b k
    have e1 : (fun b k => (blk V c 1 (pt n) : S1x1024x128.Idx → EReal) (ix3 0 b k)) = Recur.bwd (rows3 V c) n := funext fun b => funext fun k => blk1_apply V c (pt n) b k
    rw [e0, e1] at h
    exact h

/-- What a step would store as the result is the result over the two runs up to it. -/
theorem outAt_apply (c : Dev nD) {a a' : Recur.Weights} (hp : Packed (V c main_v16) (V c main_v18) a) (hp' : Packed (V c main_v31) (V c main_v33) a')
    (n : ℕ) (hn : (pt n).val = n) (b : Fin 1024) (j : Fin 128) :
    outAt V c (pt n) (ix2 b j)
      = Recur.result (Recur.run a (Recur.fwd (rows3 V c)) (n + 1)).h (Recur.run a' (Recur.bwd (rows3 V c)) (n + 1)).h (fun k => (V c main_arg10 : S1x256.Idx → EReal) (ix2 0 k))
          ((V c main_v34 : S1x1.Idx → EReal) (ix2 0 0)) b := by
  have h2 := blk2_eq V c (pt n)
  have h3 := blk3_eq V c (pt n)
  have h4 := blk4_eq V c (pt n)
  have h5 := blk5_eq V c (pt n)
  have hs := stAt_holds V c hp hp' n
  rw [← hn] at hs
  have h := lastOut_apply (x2 := blk V c 2 (pt n)) (x3 := blk V c 3 (pt n)) (x4 := blk V c 4 (pt n)) (x5 := blk V c 5 (pt n)) (a := a) (a' := a')
    (h2 ▸ h4 ▸ hp) (h3 ▸ h5 ▸ hp') (blk V c 0 (pt n)) (blk V c 1 (pt n)) (blk V c 6 (pt n)) (blk V c 7 (pt n)) hs b j
  have e0 : (fun b k => (blk V c 0 (pt n) : S1x1024x128.Idx → EReal) (ix3 0 b k)) = Recur.fwd (rows3 V c) n := funext fun b => funext fun k => blk0_apply V c (pt n) b k
  have e1 : (fun b k => (blk V c 1 (pt n) : S1x1024x128.Idx → EReal) (ix3 0 b k)) = Recur.bwd (rows3 V c) n := funext fun b => funext fun k => blk1_apply V c (pt n) b k
  refine Eq.trans h ?_
  rw [e0, e1, blk6_eq, blk7_eq, hn]
  rfl

/-- The result's array, read at an index. -/
theorem outArr_apply (c : Dev nD) {a a' : Recur.Weights} (hp : Packed (V c main_v16) (V c main_v18) a) (hp' : Packed (V c main_v31) (V c main_v33) a')
    (b : Fin 1024) (j : Fin 128) :
    ((dat V c).arrAt 8 cfg1.N : S1024x128.Idx → EReal) (ix2 b j)
      = Recur.result (Recur.run a (Recur.fwd (rows3 V c)) (199 + 1)).h (Recur.run a' (Recur.bwd (rows3 V c)) (199 + 1)).h (fun k => (V c main_arg10 : S1x256.Idx → EReal) (ix2 0 k))
          ((V c main_v34 : S1x1.Idx → EReal) (ix2 0 0)) b :=
  (out_last (F := Ideal) V c (ix2 b j)).trans (outAt_apply V c hp hp' 199 rfl b j)

end Numbers

end Cert.KernelIdeal.Pf
-- ==== Proof.KerHost.lean ====
/-
  What the kernel's lines before the TensorCore call leave for it, at the extended reals: the packed weights and biases
  hold the arguments times their factors, and row `t` of the gathered array holds the table's rows named by the words
  of step `t`.
-/
module

public import proofs.«01_k».proof.Proof.KerArr

@[expose] public section

set_option maxRecDepth 16384

namespace Cert.KernelIdeal.Pf
open Idealize.ShloMosaic Idealize.ShloMosaic.TcCoe
open Idealize.ShloMosaic.StableHlo (after)
open Cert.KernelIdeal Cert.KernelIdeal.Gen

variable (m : (ℓ : Loc nD τ sig) → Buf (Elt Ideal) ℓ)

/-- The factors as the kernel lays them out: four runs of 128 lanes. -/
noncomputable def factors : FVec Ideal S512 .f32 :=
  concatenate S512 0 [⟨S128, broadcastInDim S128 ![] bcast_S_S128 (constant S_ .f32 0x3F000000#32)⟩, ⟨S128, broadcastInDim S128 ![] bcast_S_S128 (constant S_ .f32 0x3F800000#32)⟩,
    ⟨S128, broadcastInDim S128 ![] bcast_S_S128 (constant S_ .f32 0x3F800000#32)⟩, ⟨S128, broadcastInDim S128 ![] bcast_S_S128 (constant S_ .f32 0x3F000000#32)⟩]
    concatenates_S128_S128_S128_S128_S512_d0

theorem factors_apply (g : Fin 512) : factors (ix1 g) = (half g : EReal) := by
  have hg : g.val < 512 := g.isLt
  pointwise [factors]
  unfold half
  rw [Recur.ofBits_half]
  by_cases h1 : g.val < 128
  · rw [dif_pos h1, if_neg (by omega)]
  · by_cases h2 : g.val - 128 < 128
    · rw [dif_neg h1, dif_pos h2, if_pos (by omega)]; rfl
    · by_cases h3 : g.val - 128 - 128 < 128
      · rw [dif_neg h1, dif_neg h2, dif_pos h3, if_pos (by omega)]; rfl
      · rw [dif_neg h1, dif_neg h2, dif_neg h3, if_neg (by omega)]

/-- The packed weights over two arguments. -/
noncomputable def packW (w u : FVec Ideal S512x128 .f32) : FVec Ideal S256x512 .f32 :=
  mulf (concatenate S256x512 0 [⟨S128x512, transpose S128x512 [1, 0] w transposes_S512x128_S128x512_1_0⟩, ⟨S128x512, transpose S128x512 [1, 0] u transposes_S512x128_S128x512_1_0⟩] concatenates_S128x512_S128x512_S256x512_d0)
    (broadcastInDim S256x512 ![0, 1] bcast_S1x512_S256x512_0_1 (broadcastInDim S1x512 ![1] bcast_S512_S1x512_1 factors))

/-- The packed bias over two arguments. -/
noncomputable def packB (p q : FVec Ideal S512 .f32) : FVec Ideal S1x512 .f32 :=
  mulf (shapeCast S1x512 (addf p q) shapeCasts_S512_S1x512) (broadcastInDim S1x512 ![1] bcast_S512_S1x512_1 factors)

theorem packed (w u : FVec Ideal S512x128 .f32) (p q : FVec Ideal S512 .f32) :
    Packed (packW w u) (packB p q) ⟨fun g k => w (ix2 g k), fun g k => u (ix2 g k), fun g => p (ix1 g), fun g => q (ix1 g)⟩ where
  hW g k := by
    rw [← factors_apply]
    pointwise [packW]
  hU g k := by
    rw [← factors_apply]
    pointwise [packW]
  hb g := by
    rw [← factors_apply]
    pointwise [packB]

/-- A row of the table by its word and lane. -/
theorem tabRow_eq (w : BitVec 32) (k : Fin 128) : tabRow w k = ix2 ⟨w.toNat % 100000, Nat.mod_lt _ (by decide)⟩ k := by
  funext a
  match a with
  | ⟨0, _⟩ => rfl
  | ⟨1, _⟩ => rfl

theorem flat_rows (I : S1024x200.Idx → BitVec 32) (X : S100000x128.Idx → EReal) (t : Fin 200) (b : Fin 1024) (k : Fin 128) :
    shapeCast S200x1024x128 (rowsOf (F := Ideal) (shapeCast S204800 (transpose S200x1024 [1, 0] I transposes_S1024x200_S200x1024_1_0) shapeCasts_S200x1024_S204800) X)
      shapeCasts_S204800x128_S200x1024x128 (ix3 t b k) = Recur.rowsAt I X t b k := by
  rw [Recur.rowsAt, ← tabRow_eq]
  pointwise [rowsOf]
  refine congrArg (fun i => X (tabRow (I i) k)) ((ix2_inj _ _ _ _).mpr ⟨Fin.ext ?_, Fin.ext ?_⟩)
  · show (t.val * 1024 + b.val) % 1024 = b.val
    omega
  · show (t.val * 1024 + b.val) / 1024 = t.val
    omega

theorem W3_main_v16 (c : Dev nD) : (V3 m c main_v16 : S256x512.Idx → EReal) = packW (m ((c : Thread nD τ).loc main_arg2)) (m ((c : Thread nD τ).loc main_arg3)) := by
  show W3 m c _ = _
  unfold W3
  after_results
  rfl

theorem W3_main_v18 (c : Dev nD) : (V3 m c main_v18 : S1x512.Idx → EReal) = packB (m ((c : Thread nD τ).loc main_arg4)) (m ((c : Thread nD τ).loc main_arg5)) := by
  show W3 m c _ = _
  unfold W3
  after_results
  rfl

theorem W3_main_v31 (c : Dev nD) : (V3 m c main_v31 : S256x512.Idx → EReal) = packW (m ((c : Thread nD τ).loc main_arg6)) (m ((c : Thread nD τ).loc main_arg7)) := by
  show W3 m c _ = _
  unfold W3
  after_results
  rfl

theorem W3_main_v33 (c : Dev nD) : (V3 m c main_v33 : S1x512.Idx → EReal) = packB (m ((c : Thread nD τ).loc main_arg8)) (m ((c : Thread nD τ).loc main_arg9)) := by
  show W3 m c _ = _
  unfold W3
  after_results
  rfl

theorem W3_main_v34 (c : Dev nD) : (V3 m c main_v34 : S1x1.Idx → EReal) = shapeCast S1x1 (m ((c : Thread nD τ).loc main_arg11)) shapeCasts_S1_S1x1 := by
  show W3 m c _ = _
  unfold W3
  after_results
  rfl

theorem W3_main_v3 (c : Dev nD) : (V3 m c main_v3 : S200x1024x128.Idx → EReal) = shapeCast S200x1024x128 (tgt (tokens m) (table m) c) shapeCasts_S204800x128_S200x1024x128 := by
  show W3 m c _ = _
  unfold W3
  after_results
  rfl

theorem W3_main_arg10 (c : Dev nD) : (V3 m c main_arg10 : S1x256.Idx → EReal) = m ((c : Thread nD τ).loc main_arg10) := by
  show W3 m c _ = _
  unfold W3 W2 W1
  rw [StableHlo.after_unwritten wr2 ops2_writes (by decide), Function.update_of_ne (StableHlo.devRef_ne_of_ne (by decide)),
    StableHlo.after_unwritten wr1 ops1_writes (by decide)]
  rfl

/-- The weights of the forward direction at the launch, -/
noncomputable def wF (c : Dev nD) : Recur.Weights :=
  ⟨fun g k => (m ((c : Thread nD τ).loc main_arg2) : S512x128.Idx → EReal) (ix2 g k), fun g k => (m ((c : Thread nD τ).loc main_arg3) : S512x128.Idx → EReal) (ix2 g k),
    fun g => (m ((c : Thread nD τ).loc main_arg4) : S512.Idx → EReal) (ix1 g), fun g => (m ((c : Thread nD τ).loc main_arg5) : S512.Idx → EReal) (ix1 g)⟩

/-- and of the backward one. -/
noncomputable def wB (c : Dev nD) : Recur.Weights :=
  ⟨fun g k => (m ((c : Thread nD τ).loc main_arg6) : S512x128.Idx → EReal) (ix2 g k), fun g k => (m ((c : Thread nD τ).loc main_arg7) : S512x128.Idx → EReal) (ix2 g k),
    fun g => (m ((c : Thread nD τ).loc main_arg8) : S512.Idx → EReal) (ix1 g), fun g => (m ((c : Thread nD τ).loc main_arg9) : S512.Idx → EReal) (ix1 g)⟩

theorem packed_F (c : Dev nD) : Packed (V3 m c main_v16) (V3 m c main_v18) (wF m c) := by
  have h := packed (m ((c : Thread nD τ).loc main_arg2)) (m ((c : Thread nD τ).loc main_arg3)) (m ((c : Thread nD τ).loc main_arg4)) (m ((c : Thread nD τ).loc main_arg5))
  rw [← W3_main_v16, ← W3_main_v18] at h
  exact h

theorem packed_B (c : Dev nD) : Packed (V3 m c main_v31) (V3 m c main_v33) (wB m c) := by
  have h := packed (m ((c : Thread nD τ).loc main_arg6)) (m ((c : Thread nD τ).loc main_arg7)) (m ((c : Thread nD τ).loc main_arg8)) (m ((c : Thread nD τ).loc main_arg9))
  rw [← W3_main_v31, ← W3_main_v33] at h
  exact h

/-- The gathered rows in plain numbers. -/
theorem rows3_eq (c : Dev nD) : rows3 (V3 m) c = Recur.rowsAt (m ((c : Thread nD τ).loc main_arg0)) (m ((c : Thread nD τ).loc main_arg1)) := by
  funext t b k
  unfold rows3
  rw [W3_main_v3, ← flat_rows]
  unfold tgt
  rw [tokens_eq, table_eq]

/-- The kernel's result, read at an index. -/
theorem result_apply (c : Dev nD) (b : Fin 1024) :
    (W5 m c main_v37 : S1024.Idx → EReal) (ix1 b)
      = Recur.result (Recur.run (wF m c) (Recur.fwd (Recur.rowsAt (m ((c : Thread nD τ).loc main_arg0)) (m ((c : Thread nD τ).loc main_arg1)))) (199 + 1)).h
          (Recur.run (wB m c) (Recur.bwd (Recur.rowsAt (m ((c : Thread nD τ).loc main_arg0)) (m ((c : Thread nD τ).loc main_arg1)))) (199 + 1)).h
          (fun k => (m ((c : Thread nD τ).loc main_arg10) : S1x256.Idx → EReal) (ix2 0 k)) ((m ((c : Thread nD τ).loc main_arg11) : S1.Idx → EReal) (ix1 0)) b := by
  have e : (W5 m c main_v37 : S1024.Idx → EReal)
      = shapeCast S1024 (extractStridedSlice S1024x1 ![0, 0] (lstmOut m c : S1024x128.Idx → EReal) slices_S1024x128_S1024x1_0_0) shapeCasts_S1024x1_S1024 := by
    unfold W5
    after_results
    rfl
  have e' : shapeCast S1024 (extractStridedSlice S1024x1 ![0, 0] (lstmOut m c : S1024x128.Idx → EReal) slices_S1024x128_S1024x1_0_0) shapeCasts_S1024x1_S1024 (ix1 b)
      = (lstmOut m c : S1024x128.Idx → EReal) (ix2 b 0) := by
    generalize (lstmOut m c : S1024x128.Idx → EReal) = L
    pointwise
  have e11 : (V3 m c main_v34 : S1x1.Idx → EReal) (ix2 0 0) = (m ((c : Thread nD τ).loc main_arg11) : S1.Idx → EReal) (ix1 0) := by
    rw [W3_main_v34]
    generalize (m ((c : Thread nD τ).loc main_arg11) : S1.Idx → EReal) = L
    pointwise
  rw [e, e']
  refine (outArr_apply (V3 m) c (packed_F m c) (packed_B m c) b 0).trans ?_
  rw [rows3_eq, e11, W3_main_arg10]

end Cert.KernelIdeal.Pf
-- ==== Proof.RefTake.lean ====
/-
  The reference's look-up at the extended reals: over words in range the fill of out-of-range rows never shows, and the
  rows looked up are the table's rows named by the words.
-/
module

public import proofs.«01_k».proof.Proof.Ref
public import proofs.«01_k».proof.Proof.Recur
public import Idealize.ShloMosaic.Lib.ReduceAll
public import Idealize.ShloMosaic.Lib.ValueIdxCore

@[expose] public section

set_option maxRecDepth 16384

noncomputable section

namespace Cert.ReferenceIdeal.Pf
open Cert.ReferenceIdeal Cert.ReferenceIdeal.Gen
open Idealize.ShloMosaic Idealize.ShloMosaic.TcCoe
open Idealize.ShloMosaic.StableHlo (after)

variable {F : FTy → Type} [FloatOps F]

/-- The start rows of the look-up: a negative word counts from the table's end. -/
def startOf (x : IVec S1024x200 32) : IVec S1024x200x1 32 :=
  broadcastInDim S1024x200x1 ![0, 1] bcast_S1024x200_S1024x200x1_0_1
    (select (cmpi .slt x (broadcastInDim S1024x200 ![] bcast_S_S1024x200 (constantI S_ 32 0#32)))
      (addi x (broadcastInDim S1024x200 ![] bcast_S_S1024x200 (constantI S_ 32 100000#32))) x)

/-- Which start rows are in range. -/
def okOf (i : IVec S1024x200x1 32) : IVec S1024x200 1 :=
  Host.reduce IntOp.andi
    (andi (cmpi .sge i (broadcastInDim S1024x200x1 ![] bcast_S_S1024x200x1 (constantI S_ 32 0#32)))
      (cmpi .sle i (broadcastInDim S1024x200x1 ![0, 1, 2] bcast_S1x1x1_S1024x200x1_0_1_2 (broadcastInDim S1x1x1 ![2] bcast_S1_S1x1x1_2 (constantI S1 32 99999#32)))))
    (constantI S_ 1 1#1) reducesTo_S1024x200x1_S1024x200_d2 h_S_

/-- The rows looked up, a fill where the start row is out of range. -/
def takeOf (x : IVec S1024x200 32) (e : FVec F S100000x128 .f32) : FVec F S1024x200x128 .f32 :=
  select (broadcastInDim S1024x200x128 ![0, 1] bcast_S1024x200_S1024x200x128_0_1 (okOf (startOf x)))
    (Host.gather gather_S100000x128_S1024x200x1_S1024x200x128_2_0_n_n_0_2_1128 e (startOf x))
    (broadcastInDim S1024x200x128 ![] bcast_S_S1024x200x128 (constant S_ .f32 0x7FC00000#32))

theorem take_v (X : Valuation τ sig (Elt F)) :
    (after opsT X (Proc.devRef .tc main_v0) : FVec F S1024x200x128 .f32) = takeOf (X (Proc.devRef .tc main_arg0)) (X (Proc.devRef .tc main_arg1)) := by
  after_results
  simp only [StableHlo.TRef.toBuf, StableHlo.TRef.ofBuf, cast_cast, cast_eq]
  rfl

theorem toInt_small {w : BitVec 32} (h : w.toNat < 100000) : w.toInt = w.toNat := by
  rw [BitVec.toInt_eq_toNat_cond, if_pos (by omega)]

/-- A word in range is its own start row. -/
theorem startOf_apply (x : IVec S1024x200 32) (hx : ∀ j, (x j).toNat < 100000) (b : Fin 1024) (t : Fin 200) (z : Fin 1) :
    startOf x (ix3 b t z) = x (ix2 b t) := by
  have hn : (x (ix2 b t)).slt 0#32 = false := by
    simp only [BitVec.slt, BitVec.toInt_zero, toInt_small (hx _), decide_eq_false_iff_not, Int.not_lt]
    omega
  pointwise [startOf]
  show (if BitVec.ofBool ((x (ix2 b t)).slt 0#32) = 1 then _ else _) = _
  rw [hn]
  rfl

theorem okOf_apply (i : IVec S1024x200x1 32) (hi : ∀ j, (i j).toNat < 100000) (j : S1024x200.Idx) : okOf i j = 1#1 := by
  refine Host.reduce_andi_one _ _ _ _ _ rfl fun y => ?_
  have h := hi y
  have e1 : (0#32).sle (i y) = true := by
    simp only [BitVec.sle, BitVec.toInt_zero, toInt_small h, decide_eq_true_eq]
    omega
  have e2 : (i y).sle 99999#32 = true := by
    have e : (99999#32).toInt = 99999 := by decide
    simp only [BitVec.sle, decide_eq_true_eq, toInt_small h, e]
    omega
  show BitVec.ofBool ((0#32).sle (i y)) &&& BitVec.ofBool ((i y).sle 99999#32) = 1#1
  rw [e1, e2]
  rfl

abbrev gd : GatherDims S100000x128 S1024x200x1 S1024x200x128 := gather_S100000x128_S1024x200x1_S1024x200x128_2_0_n_n_0_2_1128

/-- The gather at an index: the table's row at the start row clamped into the table. -/
theorem gather_apply (e : FVec F S100000x128 .f32) (i : IVec S1024x200x1 32) (b : Fin 1024) (t : Fin 200) (k : Fin 128) :
    Host.gather gd e i (ix3 b t k) = e (ix2 ⟨min (i (ix3 b t 0)).toInt.toNat 99999, by omega⟩ k) := by
  unfold Host.gather
  refine congrArg e (funext fun a => Fin.ext ?_)
  show gd.start (ix3 b t k) i a + gd.batchCoord (ix3 b t k) a + gd.offCoord (ix3 b t k) a = _
  rw [GatherDims.batchCoord_eq_zero _ _ _ (List.not_mem_nil), Nat.add_zero]
  match a with
  | ⟨0, _⟩ =>
    have hs : gd.siIdx (ix3 b t k) ⟨List.idxOf (0 : Fin 2) gd.startIndexMap, List.idxOf_lt_length_iff.2 (List.mem_singleton.mpr rfl)⟩ = ix3 b t 0 := by
      funext c
      refine Fin.ext ?_
      match c with
      | ⟨0, _⟩ => rfl
      | ⟨1, _⟩ => rfl
      | ⟨2, _⟩ => rfl
    show gd.start (ix3 b t k) i (0 : Fin 2) + gd.offCoord (ix3 b t k) (0 : Fin 2) = _
    rw [GatherDims.offCoord_eq_zero _ _ _ (fun h => ((GatherDims.mem_sKept _ _).mp h).1 (List.mem_singleton.mpr rfl)), Nat.add_zero]
    unfold GatherDims.start
    rw [dif_pos (show (0 : Fin 2) ∈ gd.startIndexMap from List.mem_singleton.mpr rfl), hs]
    rfl
  | ⟨1, _⟩ =>
    show gd.start (ix3 b t k) i (1 : Fin 2) + gd.offCoord (ix3 b t k) (1 : Fin 2) = _
    have h0 : gd.start (ix3 b t k) i (1 : Fin 2) = 0 := by
      unfold GatherDims.start
      rw [dif_neg (show (1 : Fin 2) ∉ gd.startIndexMap from by decide)]
    rw [h0, Nat.zero_add]
    unfold GatherDims.offCoord
    rw [dif_pos ((GatherDims.mem_sKept _ _).mpr ⟨by decide, by decide⟩)]
    rfl

/-- Over words in range the look-up reads the table's rows. -/
theorem takeOf_apply (x : IVec S1024x200 32) (hx : ∀ j, (x j).toNat < 100000) (e : FVec Ideal S100000x128 .f32) (b : Fin 1024) (t : Fin 200) (k : Fin 128) :
    takeOf x e (ix3 b t k) = Recur.rowsAt x e t b k := by
  have hs : ∀ j, (startOf x j).toNat < 100000 := fun j => by
    rw [eq_ix3 j]
    erw [startOf_apply x hx]
    exact hx _
  have hok : okOf (startOf x) = fun _ => 1#1 := funext (okOf_apply _ hs)
  have hg := gather_apply e (startOf x) b t k
  simp only [startOf_apply x hx] at hg
  unfold takeOf
  rw [hok]
  generalize Host.gather gather_S100000x128_S1024x200x1_S1024x200x128_2_0_n_n_0_2_1128 e (startOf x) = G at hg
  show G (ix3 b t k) = _
  rw [hg]
  unfold Recur.rowsAt
  have h := hx (ix2 b t)
  congr 3
  rw [toInt_small h, Int.toNat_natCast, Nat.mod_eq_of_lt h]
  omega

end Cert.ReferenceIdeal.Pf
-- ==== Proof.RefVal.lean ====
/-
  The reference at the extended reals, read at an index: each trip of its two loops is a step of the recurrence in plain
  numbers, and its result is the result over the two runs.
-/
module

public import proofs.«01_k».proof.Proof.Ref
public import proofs.«01_k».proof.Proof.Recur
public import Idealize.ShloMosaic.Lib.DynamicIndex

@[expose] public section

set_option maxRecDepth 16384

noncomputable section

namespace Cert.ReferenceIdeal.Pf
open Cert.ReferenceIdeal Cert.ReferenceIdeal.Gen
open Idealize.ShloMosaic Idealize.ShloMosaic.TcCoe
open Idealize.ShloMosaic.StableHlo (after)

/-- Two lists of operations one after the other. -/
theorem after_two {F : FTy → Type} [FloatOps F] (l₁ l₂ : List (HloOp τ sig (Elt F))) (V : Valuation τ sig (Elt F)) : after (l₁ ++ l₂) V = after l₂ (after l₁ V) := by
  induction l₁ generalizing V with
  | nil => rfl
  | cons op l ih => exact ih _

/-! ## One trip over arrays -/

/-- The row of the step. -/
def pick (x : FVec Ideal S200x1024x128 .f32) (st : Fin 3 → Int) : FVec Ideal S1024x128 .f32 :=
  shapeCast S1024x128 (Host.dynamicSlice S1x1024x128 x st sliceFits_S200x1024x128_S1x1024x128) shapeCasts_S1x1024x128_S1024x128

/-- The preactivations. -/
def gates (r h : FVec Ideal S1024x128 .f32) (w u : FVec Ideal S512x128 .f32) (p q : FVec Ideal S512 .f32) : FVec Ideal S1024x512 .f32 :=
  addf (addf (addf (Host.dotGeneral dot_S1024x128_S128x512_S1024x512_1_0_0_1_n_n none r (transpose S128x512 [1, 0] w transposes_S512x128_S128x512_1_0))
      (Host.dotGeneral dot_S1024x128_S128x512_S1024x512_1_0_0_1_n_n none h (transpose S128x512 [1, 0] u transposes_S512x128_S128x512_1_0)))
      (broadcastInDim S1024x512 ![0, 1] bcast_S1x512_S1024x512_0_1 (broadcastInDim S1x512 ![1] bcast_S512_S1x512_1 p)))
    (broadcastInDim S1024x512 ![0, 1] bcast_S1x512_S1024x512_0_1 (broadcastInDim S1x512 ![1] bcast_S512_S1x512_1 q))

/-- One over one plus the exponential of the negative. -/
def sgm (z : FVec Ideal S1024x128 .f32) : FVec Ideal S1024x128 .f32 :=
  Host.divf (broadcastInDim S1024x128 ![] bcast_S_S1024x128 (constant S_ .f32 0x3F800000#32))
    (addf (broadcastInDim S1024x128 ![] bcast_S_S1024x128 (constant S_ .f32 0x3F800000#32)) (Host.exp (Host.negf z)))

/-- The next cell state, -/
def cellOf (G : FVec Ideal S1024x512 .f32) (c : FVec Ideal S1024x128 .f32) : FVec Ideal S1024x128 .f32 :=
  addf (mulf (sgm (extractStridedSlice S1024x128 ![0, 128] G slices_S1024x512_S1024x128_0_128)) c)
    (mulf (sgm (extractStridedSlice S1024x128 ![0, 0] G slices_S1024x512_S1024x128_0_0)) (Host.tanh (extractStridedSlice S1024x128 ![0, 256] G slices_S1024x512_S1024x128_0_256)))

/-- and the next hidden state. -/
def hidOf (G : FVec Ideal S1024x512 .f32) (C : FVec Ideal S1024x128 .f32) : FVec Ideal S1024x128 .f32 :=
  mulf (sgm (extractStridedSlice S1024x128 ![0, 384] G slices_S1024x512_S1024x128_0_384)) (Host.tanh C)

theorem pick_apply (x : FVec Ideal S200x1024x128 .f32) (st : Fin 3 → Int) (n : ℕ) (hn : n < 200) (h0 : st 0 = n) (h1 : st 1 = 0) (h2 : st 2 = 0)
    (b : Fin 1024) (k : Fin 128) : pick x st (ix2 b k) = x (ix3 ⟨n, hn⟩ b k) := by
  unfold pick
  rw [Host.dynamicSlice_eq_extractStridedSlice S1x1024x128 x st ![n, 0, 0] _ ⟨rfl, fun a => by
      match a with
      | ⟨0, _⟩ => show n + 1 ≤ 200; omega
      | ⟨1, _⟩ => exact Nat.le_refl 1024
      | ⟨2, _⟩ => exact Nat.le_refl 128⟩ (fun a => by
      match a with
      | ⟨0, _⟩ => exact h0
      | ⟨1, _⟩ => exact h1
      | ⟨2, _⟩ => exact h2)]
  pointwise

theorem gates_apply (r h : FVec Ideal S1024x128 .f32) (w u : FVec Ideal S512x128 .f32) (p q : FVec Ideal S512 .f32) (b : Fin 1024) (g : Fin 512) :
    gates r h w u p q (ix2 b g)
      = Recur.pre ⟨fun g k => w (ix2 g k), fun g k => u (ix2 g k), fun g => p (ix1 g), fun g => q (ix1 g)⟩ (fun k => r (ix2 b k)) (fun k => h (ix2 b k)) g := by
  pointwise [gates, Recur.pre]

theorem sgm_apply (z : FVec Ideal S1024x128 .f32) (b : Fin 1024) (j : Fin 128) : sgm z (ix2 b j) = Ideal.logistic (z (ix2 b j)) := by
  pointwise [sgm, Ideal.logistic]

theorem cellOf_apply (G : FVec Ideal S1024x512 .f32) (c : FVec Ideal S1024x128 .f32) (b : Fin 1024) (j : Fin 128) :
    cellOf G c (ix2 b j) = Ideal.logistic (G (ix2 b ⟨128 + j.val, by omega⟩)) * c (ix2 b j)
      + Ideal.logistic (G (ix2 b ⟨j.val, by omega⟩)) * Ideal.tanh (G (ix2 b ⟨256 + j.val, by omega⟩)) := by
  pointwise [cellOf, sgm, Ideal.logistic]

theorem hidOf_apply (G : FVec Ideal S1024x512 .f32) (C : FVec Ideal S1024x128 .f32) (b : Fin 1024) (j : Fin 128) :
    hidOf G C (ix2 b j) = Ideal.logistic (G (ix2 b ⟨384 + j.val, by omega⟩)) * Ideal.tanh (C (ix2 b j)) := by
  pointwise [hidOf, sgm, Ideal.logistic]

/-! ## The trips of the loops over what the buffers hold -/

/-- The first body's operations that pick the row, -/
abbrev opsP0 {F : FTy → Type} [FloatOps F] : List (HloOp τ sig (Elt F)) :=
  [ StableHlo.TRef.nullary main_while0b_call1.c (constantI S_ 32 0#32),
    StableHlo.TRef.nullary main_while0b_call1.c_0 (constantI S_ 32 0#32),
    StableHlo.TRef.unaryIndexed (.of main_v4_0 : StableHlo.TRef sig ⟨S200x1024x128, .f32⟩) ![(.of main_v4_5 : StableHlo.TRef sig ⟨S_, .i32⟩), main_while0b_call1.c, main_while0b_call1.c_0] main_while0b_call1.v0 (fun x i => Host.dynamicSlice S1x1024x128 x (fun k => (i k (Shape.Idx.first h_S_)).toInt) sliceFits_S200x1024x128_S1x1024x128),
    StableHlo.TRef.reshape main_while0b_call1.v0 main_while0b_call1.v1 (rfl : (.f32 : EltTy) = .f32) shapeCasts_S1x1024x128_S1024x128 ]

abbrev wrP0 : List (Ref sig .tc) := [main_while0b_call1_c, main_while0b_call1_c_0, main_while0b_call1_v0, main_while0b_v16]

theorem opsP0_writes {F : FTy → Type} [FloatOps F] : (opsP0 (F := F)).map HloOp.writes = wrP0.map fun r => {Proc.devRef (τ := τ) .tc r} := rfl

/-- from there up to the preactivations, -/
abbrev opsG0 {F : FTy → Type} [FloatOps F] : List (HloOp τ sig (Elt F)) :=
  [ StableHlo.unary main_v4_1 main_while0b_v17 ((transpose S128x512 [1, 0] · transposes_S512x128_S128x512_1_0) : (⟨S512x128, .f32⟩ : BufTy).Contents (Elt F) → (⟨S128x512, .f32⟩ : BufTy).Contents (Elt F)),
    StableHlo.binary main_while0b_v16 main_while0b_v17 main_while0b_v18 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_v4_2 main_while0b_v19 ((transpose S128x512 [1, 0] · transposes_S512x128_S128x512_1_0) : (⟨S512x128, .f32⟩ : BufTy).Contents (Elt F) → (⟨S128x512, .f32⟩ : BufTy).Contents (Elt F)),
    StableHlo.binary main_v4_6 main_while0b_v19 main_while0b_v20 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while0b_v18 main_while0b_v20 main_while0b_v21 (addf : (⟨S1024x512, .f32⟩ : BufTy).Contents (Elt F) → (⟨S1024x512, .f32⟩ : BufTy).Contents (Elt F) → (⟨S1024x512, .f32⟩ : BufTy).Contents (Elt F)),
    StableHlo.unary main_v4_3 main_while0b_v22 (broadcastInDim S1x512 ![1] bcast_S512_S1x512_1 : (⟨S512, .f32⟩ : BufTy).Contents (Elt F) → (⟨S1x512, .f32⟩ : BufTy).Contents (Elt F)),
    StableHlo.unary main_while0b_v22 main_while0b_v23 (broadcastInDim S1024x512 ![0, 1] bcast_S1x512_S1024x512_0_1 : (⟨S1x512, .f32⟩ : BufTy).Contents (Elt F) → (⟨S1024x512, .f32⟩ : BufTy).Contents (Elt F)),
    StableHlo.binary main_while0b_v21 main_while0b_v23 main_while0b_v24 (addf : (⟨S1024x512, .f32⟩ : BufTy).Contents (Elt F) → (⟨S1024x512, .f32⟩ : BufTy).Contents (Elt F) → (⟨S1024x512, .f32⟩ : BufTy).Contents (Elt F)),
    StableHlo.unary main_v4_4 main_while0b_v25 (broadcastInDim S1x512 ![1] bcast_S512_S1x512_1 : (⟨S512, .f32⟩ : BufTy).Contents (Elt F) → (⟨S1x512, .f32⟩ : BufTy).Contents (Elt F)),
    StableHlo.unary main_while0b_v25 main_while0b_v26 (broadcastInDim S1024x512 ![0, 1] bcast_S1x512_S1024x512_0_1 : (⟨S1x512, .f32⟩ : BufTy).Contents (Elt F) → (⟨S1024x512, .f32⟩ : BufTy).Contents (Elt F)),
    StableHlo.binary main_while0b_v24 main_while0b_v26 main_while0b_v27 (addf : (⟨S1024x512, .f32⟩ : BufTy).Contents (Elt F) → (⟨S1024x512, .f32⟩ : BufTy).Contents (Elt F) → (⟨S1024x512, .f32⟩ : BufTy).Contents (Elt F)) ]

abbrev wrG0 : List (Ref sig .tc) := [main_while0b_v17, main_while0b_v18, main_while0b_v19, main_while0b_v20, main_while0b_v21, main_while0b_v22, main_while0b_v23, main_while0b_v24, main_while0b_v25, main_while0b_v26, main_while0b_v27]

theorem opsG0_writes {F : FTy → Type} [FloatOps F] : (opsG0 (F := F)).map HloOp.writes = wrG0.map fun r => {Proc.devRef (τ := τ) .tc r} := rfl

/-- and from them on. -/
abbrev opsH0 {F : FTy → Type} [FloatOps F] : List (HloOp τ sig (Elt F)) :=
  [ StableHlo.unary main_while0b_v27 main_while0b_v28 ((extractStridedSlice S1024x128 ![0, 0] · slices_S1024x512_S1024x128_0_0) : (⟨S1024x512, .f32⟩ : BufTy).Contents (Elt F) → (⟨S1024x128, .f32⟩ : BufTy).Contents (Elt F)),
    StableHlo.unary main_while0b_v27 main_while0b_v29 ((extractStridedSlice S1024x128 ![0, 128] · slices_S1024x512_S1024x128_0_128) : (⟨S1024x512, .f32⟩ : BufTy).Contents (Elt F) → (⟨S1024x128, .f32⟩ : BufTy).Contents (Elt F)),
    StableHlo.unary main_while0b_v27 main_while0b_v30 ((extractStridedSlice S1024x128 ![0, 256] · slices_S1024x512_S1024x128_0_256) : (⟨S1024x512, .f32⟩ : BufTy).Contents (Elt F) → (⟨S1024x128, .f32⟩ : BufTy).Contents (Elt F)),
    StableHlo.unary main_while0b_v27 main_while0b_v31 ((extractStridedSlice S1024x128 ![0, 384] · slices_S1024x512_S1024x128_0_384) : (⟨S1024x512, .f32⟩ : BufTy).Contents (Elt F) → (⟨S1024x128, .f32⟩ : BufTy).Contents (Elt F)),
    StableHlo.unary main_while0b_v28 main_while0b_v32 (Host.negf : (⟨S1024x128, .f32⟩ : BufTy).Contents (Elt F) → (⟨S1024x128, .f32⟩ : BufTy).Contents (Elt F)),
    StableHlo.unary main_while0b_v32 main_while0b_v33 (Host.exp : (⟨S1024x128, .f32⟩ : BufTy).Contents (Elt F) → (⟨S1024x128, .f32⟩ : BufTy).Contents (Elt F)),
    StableHlo.nullary main_while0b_cst_11 (constant S_ .f32 0x3F800000#32),
    StableHlo.unary main_while0b_cst_11 main_while0b_v34 (broadcastInDim S1024x128 ![] bcast_S_S1024x128 : (⟨S_, .f32⟩ : BufTy).Contents (Elt F) → (⟨S1024x128, .f32⟩ : BufTy).Contents (Elt F)),
    StableHlo.binary main_while0b_v34 main_while0b_v33 main_while0b_v35 (addf : (⟨S1024x128, .f32⟩ : BufTy).Contents (Elt F) → (⟨S1024x128, .f32⟩ : BufTy).Contents (Elt F) → (⟨S1024x128, .f32⟩ : BufTy).Contents (Elt F)),
    StableHlo.nullary main_while0b_cst_12 (constant S_ .f32 0x3F800000#32),
    StableHlo.unary main_while0b_cst_12 main_while0b_v36 (broadcastInDim S1024x128 ![] bcast_S_S1024x128 : (⟨S_, .f32⟩ : BufTy).Contents (Elt F) → (⟨S1024x128, .f32⟩ : BufTy).Contents (Elt F)),
    StableHlo.binary main_while0b_v36 main_while0b_v35 main_while0b_v37 (Host.divf : (⟨S1024x128, .f32⟩ : BufTy).Contents (Elt F) → (⟨S1024x128, .f32⟩ : BufTy).Contents (Elt F) → (⟨S1024x128, .f32⟩ : BufTy).Contents (Elt F)),
    StableHlo.unary main_while0b_v29 main_while0b_v38 (Host.negf : (⟨S1024x128, .f32⟩ : BufTy).Contents (Elt F) → (⟨S1024x128, .f32⟩ : BufTy).Contents (Elt F)),
    StableHlo.unary main_while0b_v38 main_while0b_v39 (Host.exp : (⟨S1024x128, .f32⟩ : BufTy).Contents (Elt F) → (⟨S1024x128, .f32⟩ : BufTy).Contents (Elt F)),
    StableHlo.nullary main_while0b_cst_13 (constant S_ .f32 0x3F800000#32),
    StableHlo.unary main_while0b_cst_13 main_while0b_v40 (broadcastInDim S1024x128 ![] bcast_S_S1024x128 : (⟨S_, .f32⟩ : BufTy).Contents (Elt F) → (⟨S1024x128, .f32⟩ : BufTy).Contents (Elt F)),
    StableHlo.binary main_while0b_v40 main_while0b_v39 main_while0b_v41 (addf : (⟨S1024x128, .f32⟩ : BufTy).Contents (Elt F) → (⟨S1024x128, .f32⟩ : BufTy).Contents (Elt F) → (⟨S1024x128, .f32⟩ : BufTy).Contents (Elt F)),
    StableHlo.nullary main_while0b_cst_14 (constant S_ .f32 0x3F800000#32),
    StableHlo.unary main_while0b_cst_14 main_while0b_v42 (broadcastInDim S1024x128 ![] bcast_S_S1024x128 : (⟨S_, .f32⟩ : BufTy).Contents (Elt F) → (⟨S1024x128, .f32⟩ : BufTy).Contents (Elt F)),
    StableHlo.binary main_while0b_v42 main_while0b_v41 main_while0b_v43 (Host.divf : (⟨S1024x128, .f32⟩ : BufTy).Contents (Elt F) → (⟨S1024x128, .f32⟩ : BufTy).Contents (Elt F) → (⟨S1024x128, .f32⟩ : BufTy).Contents (Elt F)),
    StableHlo.unary main_while0b_v30 main_while0b_v44 (Host.tanh : (⟨S1024x128, .f32⟩ : BufTy).Contents (Elt F) → (⟨S1024x128, .f32⟩ : BufTy).Contents (Elt F)),
    StableHlo.unary main_while0b_v31 main_while0b_v45 (Host.negf : (⟨S1024x128, .f32⟩ : BufTy).Contents (Elt F) → (⟨S1024x128, .f32⟩ : BufTy).Contents (Elt F)),
    StableHlo.unary main_while0b_v45 main_while0b_v46 (Host.exp : (⟨S1024x128, .f32⟩ : BufTy).Contents (Elt F) → (⟨S1024x128, .f32⟩ : BufTy).Contents (Elt F)),
    StableHlo.nullary main_while0b_cst_15 (constant S_ .f32 0x3F800000#32),
    StableHlo.unary main_while0b_cst_15 main_while0b_v47 (broadcastInDim S1024x128 ![] bcast_S_S1024x128 : (⟨S_, .f32⟩ : BufTy).Contents (Elt F) → (⟨S1024x128, .f32⟩ : BufTy).Contents (Elt F)),
    StableHlo.binary main_while0b_v47 main_while0b_v46 main_while0b_v48 (addf : (⟨S1024x128, .f32⟩ : BufTy).Contents (Elt F) → (⟨S1024x128, .f32⟩ : BufTy).Contents (Elt F) → (⟨S1024x128, .f32⟩ : BufTy).Contents (Elt F)),
    StableHlo.nullary main_while0b_cst_16 (constant S_ .f32 0x3F800000#32),
    StableHlo.unary main_while0b_cst_16 main_while0b_v49 (broadcastInDim S1024x128 ![] bcast_S_S1024x128 : (⟨S_, .f32⟩ : BufTy).Contents (Elt F) → (⟨S1024x128, .f32⟩ : BufTy).Contents (Elt F)),
    StableHlo.binary main_while0b_v49 main_while0b_v48 main_while0b_v50 (Host.divf : (⟨S1024x128, .f32⟩ : BufTy).Contents (Elt F) → (⟨S1024x128, .f32⟩ : BufTy).Contents (Elt F) → (⟨S1024x128, .f32⟩ : BufTy).Contents (Elt F)),
    StableHlo.binary main_while0b_v43 main_v4_7 main_while0b_v51 (mulf : (⟨S1024x128, .f32⟩ : BufTy).Contents (Elt F) → (⟨S1024x128, .f32⟩ : BufTy).Contents (Elt F) → (⟨S1024x128, .f32⟩ : BufTy).Contents (Elt F)),
    StableHlo.binary main_while0b_v37 main_while0b_v44 main_while0b_v52 (mulf : (⟨S1024x128, .f32⟩ : BufTy).Contents (Elt F) → (⟨S1024x128, .f32⟩ : BufTy).Contents (Elt F) → (⟨S1024x128, .f32⟩ : BufTy).Contents (Elt F)),
    StableHlo.binary main_while0b_v51 main_while0b_v52 main_while0b_v53 (addf : (⟨S1024x128, .f32⟩ : BufTy).Contents (Elt F) → (⟨S1024x128, .f32⟩ : BufTy).Contents (Elt F) → (⟨S1024x128, .f32⟩ : BufTy).Contents (Elt F)),
    StableHlo.unary main_while0b_v53 main_while0b_v54 (Host.tanh : (⟨S1024x128, .f32⟩ : BufTy).Contents (Elt F) → (⟨S1024x128, .f32⟩ : BufTy).Contents (Elt F)),
    StableHlo.binary main_while0b_v50 main_while0b_v54 main_while0b_v55 (mulf : (⟨S1024x128, .f32⟩ : BufTy).Contents (Elt F) → (⟨S1024x128, .f32⟩ : BufTy).Contents (Elt F) → (⟨S1024x128, .f32⟩ : BufTy).Contents (Elt F)),
    StableHlo.nullary main_while0b_c_17 (constantI S_ 32 1#32),
    StableHlo.binary main_v4_5 main_while0b_c_17 main_while0b_v56 (addi : (⟨S_, .i32⟩ : BufTy).Contents (Elt F) → (⟨S_, .i32⟩ : BufTy).Contents (Elt F) → (⟨S_, .i32⟩ : BufTy).Contents (Elt F)),
    StableHlo.unary main_while0b_v56 main_v4_5 id,
    StableHlo.unary main_while0b_v55 main_v4_6 id,
    StableHlo.unary main_while0b_v53 main_v4_7 id ]

theorem opsL0_split {F : FTy → Type} [FloatOps F] : opsL0 (F := F) = opsP0 ++ (opsG0 ++ opsH0) := rfl

/-- The tables of a trip's start: the counter, then two zeros. -/
abbrev starts0 : Fin 3 → StableHlo.TRef sig ⟨S_, .i32⟩ := ![(.of main_v4_5 : StableHlo.TRef sig ⟨S_, .i32⟩), main_while0b_call1.c, main_while0b_call1.c_0]

abbrev zeros0 {F : FTy → Type} [FloatOps F] : List (HloOp τ sig (Elt F)) :=
  [ StableHlo.TRef.nullary main_while0b_call1.c (constantI S_ 32 0#32), StableHlo.TRef.nullary main_while0b_call1.c_0 (constantI S_ 32 0#32) ]

/-- The start of a trip's row along each axis. -/
def begins0 (X : Valuation τ sig (Elt Ideal)) (k : Fin 3) : Int :=
  ((starts0 k).ofBuf (after (zeros0 (F := Ideal)) X (Proc.devRef .tc (starts0 k).ref)) (Shape.Idx.first h_S_)).toInt

theorem begins0_row (X : Valuation τ sig (Elt Ideal)) : begins0 X 0 = ((X (Proc.devRef .tc main_v4_5) : IVec S_ 32) (Shape.Idx.first h_S_)).toInt := by
  have h : (starts0 0).ofBuf (after (zeros0 (F := Ideal)) X (Proc.devRef .tc (starts0 0).ref)) = X (Proc.devRef .tc main_v4_5) := by
    show after (zeros0 (F := Ideal)) X (Proc.devRef .tc main_v4_5) = _
    after_results
  exact congrArg (fun v : IVec S_ 32 => (v (Shape.Idx.first h_S_)).toInt) h

theorem begins0_seq (X : Valuation τ sig (Elt Ideal)) : begins0 X 1 = 0 := by
  have h : (starts0 1).ofBuf (after (zeros0 (F := Ideal)) X (Proc.devRef .tc (starts0 1).ref)) = constantI S_ 32 0#32 := by
    show after (zeros0 (F := Ideal)) X (Proc.devRef .tc main_while0b_call1_c) = _
    after_results
    rfl
  exact congrArg (fun v : IVec S_ 32 => (v (Shape.Idx.first h_S_)).toInt) h

theorem begins0_lane (X : Valuation τ sig (Elt Ideal)) : begins0 X 2 = 0 := by
  have h : (starts0 2).ofBuf (after (zeros0 (F := Ideal)) X (Proc.devRef .tc (starts0 2).ref)) = constantI S_ 32 0#32 := by
    show after (zeros0 (F := Ideal)) X (Proc.devRef .tc main_while0b_call1_c_0) = _
    after_results
    rfl
  exact congrArg (fun v : IVec S_ 32 => (v (Shape.Idx.first h_S_)).toInt) h

theorem pick0_v (X : Valuation τ sig (Elt Ideal)) :
    (after (opsP0 (F := Ideal)) X (Proc.devRef .tc main_while0b_v16) : FVec Ideal S1024x128 .f32) = pick (X (Proc.devRef .tc main_v4_0)) (begins0 X) := by
  after_results
  rfl

theorem gates0_v (X : Valuation τ sig (Elt Ideal)) :
    (after (opsG0 (F := Ideal)) X (Proc.devRef .tc main_while0b_v27) : FVec Ideal S1024x512 .f32)
      = gates (X (Proc.devRef .tc main_while0b_v16)) (X (Proc.devRef .tc main_v4_6)) (X (Proc.devRef .tc main_v4_1)) (X (Proc.devRef .tc main_v4_2)) (X (Proc.devRef .tc main_v4_3)) (X (Proc.devRef .tc main_v4_4)) := by
  after_results
  rfl

theorem cell0_v (X : Valuation τ sig (Elt Ideal)) :
    (after (opsH0 (F := Ideal)) X (Proc.devRef .tc main_v4_7) : FVec Ideal S1024x128 .f32) = cellOf (X (Proc.devRef .tc main_while0b_v27)) (X (Proc.devRef .tc main_v4_7)) := by
  after_results
  rfl

theorem hid0_v (X : Valuation τ sig (Elt Ideal)) :
    (after (opsH0 (F := Ideal)) X (Proc.devRef .tc main_v4_6) : FVec Ideal S1024x128 .f32)
      = hidOf (X (Proc.devRef .tc main_while0b_v27)) (cellOf (X (Proc.devRef .tc main_while0b_v27)) (X (Proc.devRef .tc main_v4_7))) := by
  after_results
  rfl

/-- The second body's operations that pick the row, -/
abbrev opsP1 {F : FTy → Type} [FloatOps F] : List (HloOp τ sig (Elt F)) :=
  [ StableHlo.TRef.nullary main_while1b_call2.c (constantI S_ 32 0#32),
    StableHlo.TRef.nullary main_while1b_call2.c_0 (constantI S_ 32 0#32),
    StableHlo.TRef.unaryIndexed (.of main_v8_0 : StableHlo.TRef sig ⟨S200x1024x128, .f32⟩) ![(.of main_v8_5 : StableHlo.TRef sig ⟨S_, .i32⟩), main_while1b_call2.c, main_while1b_call2.c_0] main_while1b_call2.v0 (fun x i => Host.dynamicSlice S1x1024x128 x (fun k => (i k (Shape.Idx.first h_S_)).toInt) sliceFits_S200x1024x128_S1x1024x128),
    StableHlo.TRef.reshape main_while1b_call2.v0 main_while1b_call2.v1 (rfl : (.f32 : EltTy) = .f32) shapeCasts_S1x1024x128_S1024x128 ]

abbrev wrP1 : List (Ref sig .tc) := [main_while1b_call2_c, main_while1b_call2_c_0, main_while1b_call2_v0, main_while1b_v16]

theorem opsP1_writes {F : FTy → Type} [FloatOps F] : (opsP1 (F := F)).map HloOp.writes = wrP1.map fun r => {Proc.devRef (τ := τ) .tc r} := rfl

/-- from there up to the preactivations, -/
abbrev opsG1 {F : FTy → Type} [FloatOps F] : List (HloOp τ sig (Elt F)) :=
  [ StableHlo.unary main_v8_1 main_while1b_v17 ((transpose S128x512 [1, 0] · transposes_S512x128_S128x512_1_0) : (⟨S512x128, .f32⟩ : BufTy).Contents (Elt F) → (⟨S128x512, .f32⟩ : BufTy).Contents (Elt F)),
    StableHlo.binary main_while1b_v16 main_while1b_v17 main_while1b_v18 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_v8_2 main_while1b_v19 ((transpose S128x512 [1, 0] · transposes_S512x128_S128x512_1_0) : (⟨S512x128, .f32⟩ : BufTy).Contents (Elt F) → (⟨S128x512, .f32⟩ : BufTy).Contents (Elt F)),
    StableHlo.binary main_v8_6 main_while1b_v19 main_while1b_v20 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while1b_v18 main_while1b_v20 main_while1b_v21 (addf : (⟨S1024x512, .f32⟩ : BufTy).Contents (Elt F) → (⟨S1024x512, .f32⟩ : BufTy).Contents (Elt F) → (⟨S1024x512, .f32⟩ : BufTy).Contents (Elt F)),
    StableHlo.unary main_v8_3 main_while1b_v22 (broadcastInDim S1x512 ![1] bcast_S512_S1x512_1 : (⟨S512, .f32⟩ : BufTy).Contents (Elt F) → (⟨S1x512, .f32⟩ : BufTy).Contents (Elt F)),
    StableHlo.unary main_while1b_v22 main_while1b_v23 (broadcastInDim S1024x512 ![0, 1] bcast_S1x512_S1024x512_0_1 : (⟨S1x512, .f32⟩ : BufTy).Contents (Elt F) → (⟨S1024x512, .f32⟩ : BufTy).Contents (Elt F)),
    StableHlo.binary main_while1b_v21 main_while1b_v23 main_while1b_v24 (addf : (⟨S1024x512, .f32⟩ : BufTy).Contents (Elt F) → (⟨S1024x512, .f32⟩ : BufTy).Contents (Elt F) → (⟨S1024x512, .f32⟩ : BufTy).Contents (Elt F)),
    StableHlo.unary main_v8_4 main_while1b_v25 (broadcastInDim S1x512 ![1] bcast_S512_S1x512_1 : (⟨S512, .f32⟩ : BufTy).Contents (Elt F) → (⟨S1x512, .f32⟩ : BufTy).Contents (Elt F)),
    StableHlo.unary main_while1b_v25 main_while1b_v26 (broadcastInDim S1024x512 ![0, 1] bcast_S1x512_S1024x512_0_1 : (⟨S1x512, .f32⟩ : BufTy).Contents (Elt F) → (⟨S1024x512, .f32⟩ : BufTy).Contents (Elt F)),
    StableHlo.binary main_while1b_v24 main_while1b_v26 main_while1b_v27 (addf : (⟨S1024x512, .f32⟩ : BufTy).Contents (Elt F) → (⟨S1024x512, .f32⟩ : BufTy).Contents (Elt F) → (⟨S1024x512, .f32⟩ : BufTy).Contents (Elt F)) ]

abbrev wrG1 : List (Ref sig .tc) := [main_while1b_v17, main_while1b_v18, main_while1b_v19, main_while1b_v20, main_while1b_v21, main_while1b_v22, main_while1b_v23, main_while1b_v24, main_while1b_v25, main_while1b_v26, main_while1b_v27]

theorem opsG1_writes {F : FTy → Type} [FloatOps F] : (opsG1 (F := F)).map HloOp.writes = wrG1.map fun r => {Proc.devRef (τ := τ) .tc r} := rfl

/-- and from them on. -/
abbrev opsH1 {F : FTy → Type} [FloatOps F] : List (HloOp τ sig (Elt F)) :=
  [ StableHlo.unary main_while1b_v27 main_while1b_v28 ((extractStridedSlice S1024x128 ![0, 0] · slices_S1024x512_S1024x128_0_0) : (⟨S1024x512, .f32⟩ : BufTy).Contents (Elt F) → (⟨S1024x128, .f32⟩ : BufTy).Contents (Elt F)),
    StableHlo.unary main_while1b_v27 main_while1b_v29 ((extractStridedSlice S1024x128 ![0, 128] · slices_S1024x512_S1024x128_0_128) : (⟨S1024x512, .f32⟩ : BufTy).Contents (Elt F) → (⟨S1024x128, .f32⟩ : BufTy).Contents (Elt F)),
    StableHlo.unary main_while1b_v27 main_while1b_v30 ((extractStridedSlice S1024x128 ![0, 256] · slices_S1024x512_S1024x128_0_256) : (⟨S1024x512, .f32⟩ : BufTy).Contents (Elt F) → (⟨S1024x128, .f32⟩ : BufTy).Contents (Elt F)),
    StableHlo.unary main_while1b_v27 main_while1b_v31 ((extractStridedSlice S1024x128 ![0, 384] · slices_S1024x512_S1024x128_0_384) : (⟨S1024x512, .f32⟩ : BufTy).Contents (Elt F) → (⟨S1024x128, .f32⟩ : BufTy).Contents (Elt F)),
    StableHlo.unary main_while1b_v28 main_while1b_v32 (Host.negf : (⟨S1024x128, .f32⟩ : BufTy).Contents (Elt F) → (⟨S1024x128, .f32⟩ : BufTy).Contents (Elt F)),
    StableHlo.unary main_while1b_v32 main_while1b_v33 (Host.exp : (⟨S1024x128, .f32⟩ : BufTy).Contents (Elt F) → (⟨S1024x128, .f32⟩ : BufTy).Contents (Elt F)),
    StableHlo.nullary main_while1b_cst_11 (constant S_ .f32 0x3F800000#32),
    StableHlo.unary main_while1b_cst_11 main_while1b_v34 (broadcastInDim S1024x128 ![] bcast_S_S1024x128 : (⟨S_, .f32⟩ : BufTy).Contents (Elt F) → (⟨S1024x128, .f32⟩ : BufTy).Contents (Elt F)),
    StableHlo.binary main_while1b_v34 main_while1b_v33 main_while1b_v35 (addf : (⟨S1024x128, .f32⟩ : BufTy).Contents (Elt F) → (⟨S1024x128, .f32⟩ : BufTy).Contents (Elt F) → (⟨S1024x128, .f32⟩ : BufTy).Contents (Elt F)),
    StableHlo.nullary main_while1b_cst_12 (constant S_ .f32 0x3F800000#32),
    StableHlo.unary main_while1b_cst_12 main_while1b_v36 (broadcastInDim S1024x128 ![] bcast_S_S1024x128 : (⟨S_, .f32⟩ : BufTy).Contents (Elt F) → (⟨S1024x128, .f32⟩ : BufTy).Contents (Elt F)),
    StableHlo.binary main_while1b_v36 main_while1b_v35 main_while1b_v37 (Host.divf : (⟨S1024x128, .f32⟩ : BufTy).Contents (Elt F) → (⟨S1024x128, .f32⟩ : BufTy).Contents (Elt F) → (⟨S1024x128, .f32⟩ : BufTy).Contents (Elt F)),
    StableHlo.unary main_while1b_v29 main_while1b_v38 (Host.negf : (⟨S1024x128, .f32⟩ : BufTy).Contents (Elt F) → (⟨S1024x128, .f32⟩ : BufTy).Contents (Elt F)),
    StableHlo.unary main_while1b_v38 main_while1b_v39 (Host.exp : (⟨S1024x128, .f32⟩ : BufTy).Contents (Elt F) → (⟨S1024x128, .f32⟩ : BufTy).Contents (Elt F)),
    StableHlo.nullary main_while1b_cst_13 (constant S_ .f32 0x3F800000#32),
    StableHlo.unary main_while1b_cst_13 main_while1b_v40 (broadcastInDim S1024x128 ![] bcast_S_S1024x128 : (⟨S_, .f32⟩ : BufTy).Contents (Elt F) → (⟨S1024x128, .f32⟩ : BufTy).Contents (Elt F)),
    StableHlo.binary main_while1b_v40 main_while1b_v39 main_while1b_v41 (addf : (⟨S1024x128, .f32⟩ : BufTy).Contents (Elt F) → (⟨S1024x128, .f32⟩ : BufTy).Contents (Elt F) → (⟨S1024x128, .f32⟩ : BufTy).Contents (Elt F)),
    StableHlo.nullary main_while1b_cst_14 (constant S_ .f32 0x3F800000#32),
    StableHlo.unary main_while1b_cst_14 main_while1b_v42 (broadcastInDim S1024x128 ![] bcast_S_S1024x128 : (⟨S_, .f32⟩ : BufTy).Contents (Elt F) → (⟨S1024x128, .f32⟩ : BufTy).Contents (Elt F)),
    StableHlo.binary main_while1b_v42 main_while1b_v41 main_while1b_v43 (Host.divf : (⟨S1024x128, .f32⟩ : BufTy).Contents (Elt F) → (⟨S1024x128, .f32⟩ : BufTy).Contents (Elt F) → (⟨S1024x128, .f32⟩ : BufTy).Contents (Elt F)),
    StableHlo.unary main_while1b_v30 main_while1b_v44 (Host.tanh : (⟨S1024x128, .f32⟩ : BufTy).Contents (Elt F) → (⟨S1024x128, .f32⟩ : BufTy).Contents (Elt F)),
    StableHlo.unary main_while1b_v31 main_while1b_v45 (Host.negf : (⟨S1024x128, .f32⟩ : BufTy).Contents (Elt F) → (⟨S1024x128, .f32⟩ : BufTy).Contents (Elt F)),
    StableHlo.unary main_while1b_v45 main_while1b_v46 (Host.exp : (⟨S1024x128, .f32⟩ : BufTy).Contents (Elt F) → (⟨S1024x128, .f32⟩ : BufTy).Contents (Elt F)),
    StableHlo.nullary main_while1b_cst_15 (constant S_ .f32 0x3F800000#32),
    StableHlo.unary main_while1b_cst_15 main_while1b_v47 (broadcastInDim S1024x128 ![] bcast_S_S1024x128 : (⟨S_, .f32⟩ : BufTy).Contents (Elt F) → (⟨S1024x128, .f32⟩ : BufTy).Contents (Elt F)),
    StableHlo.binary main_while1b_v47 main_while1b_v46 main_while1b_v48 (addf : (⟨S1024x128, .f32⟩ : BufTy).Contents (Elt F) → (⟨S1024x128, .f32⟩ : BufTy).Contents (Elt F) → (⟨S1024x128, .f32⟩ : BufTy).Contents (Elt F)),
    StableHlo.nullary main_while1b_cst_16 (constant S_ .f32 0x3F800000#32),
    StableHlo.unary main_while1b_cst_16 main_while1b_v49 (broadcastInDim S1024x128 ![] bcast_S_S1024x128 : (⟨S_, .f32⟩ : BufTy).Contents (Elt F) → (⟨S1024x128, .f32⟩ : BufTy).Contents (Elt F)),
    StableHlo.binary main_while1b_v49 main_while1b_v48 main_while1b_v50 (Host.divf : (⟨S1024x128, .f32⟩ : BufTy).Contents (Elt F) → (⟨S1024x128, .f32⟩ : BufTy).Contents (Elt F) → (⟨S1024x128, .f32⟩ : BufTy).Contents (Elt F)),
    StableHlo.binary main_while1b_v43 main_v8_7 main_while1b_v51 (mulf : (⟨S1024x128, .f32⟩ : BufTy).Contents (Elt F) → (⟨S1024x128, .f32⟩ : BufTy).Contents (Elt F) → (⟨S1024x128, .f32⟩ : BufTy).Contents (Elt F)),
    StableHlo.binary main_while1b_v37 main_while1b_v44 main_while1b_v52 (mulf : (⟨S1024x128, .f32⟩ : BufTy).Contents (Elt F) → (⟨S1024x128, .f32⟩ : BufTy).Contents (Elt F) → (⟨S1024x128, .f32⟩ : BufTy).Contents (Elt F)),
    StableHlo.binary main_while1b_v51 main_while1b_v52 main_while1b_v53 (addf : (⟨S1024x128, .f32⟩ : BufTy).Contents (Elt F) → (⟨S1024x128, .f32⟩ : BufTy).Contents (Elt F) → (⟨S1024x128, .f32⟩ : BufTy).Contents (Elt F)),
    StableHlo.unary main_while1b_v53 main_while1b_v54 (Host.tanh : (⟨S1024x128, .f32⟩ : BufTy).Contents (Elt F) → (⟨S1024x128, .f32⟩ : BufTy).Contents (Elt F)),
    StableHlo.binary main_while1b_v50 main_while1b_v54 main_while1b_v55 (mulf : (⟨S1024x128, .f32⟩ : BufTy).Contents (Elt F) → (⟨S1024x128, .f32⟩ : BufTy).Contents (Elt F) → (⟨S1024x128, .f32⟩ : BufTy).Contents (Elt F)),
    StableHlo.nullary main_while1b_c_17 (constantI S_ 32 1#32),
    StableHlo.binary main_v8_5 main_while1b_c_17 main_while1b_v56 (addi : (⟨S_, .i32⟩ : BufTy).Contents (Elt F) → (⟨S_, .i32⟩ : BufTy).Contents (Elt F) → (⟨S_, .i32⟩ : BufTy).Contents (Elt F)),
    StableHlo.unary main_while1b_v56 main_v8_5 id,
    StableHlo.unary main_while1b_v55 main_v8_6 id,
    StableHlo.unary main_while1b_v53 main_v8_7 id ]

theorem opsL1_split {F : FTy → Type} [FloatOps F] : opsL1 (F := F) = opsP1 ++ (opsG1 ++ opsH1) := rfl

/-- The tables of a trip's start: the counter, then two zeros. -/
abbrev starts1 : Fin 3 → StableHlo.TRef sig ⟨S_, .i32⟩ := ![(.of main_v8_5 : StableHlo.TRef sig ⟨S_, .i32⟩), main_while1b_call2.c, main_while1b_call2.c_0]

abbrev zeros1 {F : FTy → Type} [FloatOps F] : List (HloOp τ sig (Elt F)) :=
  [ StableHlo.TRef.nullary main_while1b_call2.c (constantI S_ 32 0#32), StableHlo.TRef.nullary main_while1b_call2.c_0 (constantI S_ 32 0#32) ]

/-- The start of a trip's row along each axis. -/
def begins1 (X : Valuation τ sig (Elt Ideal)) (k : Fin 3) : Int :=
  ((starts1 k).ofBuf (after (zeros1 (F := Ideal)) X (Proc.devRef .tc (starts1 k).ref)) (Shape.Idx.first h_S_)).toInt

theorem begins1_row (X : Valuation τ sig (Elt Ideal)) : begins1 X 0 = ((X (Proc.devRef .tc main_v8_5) : IVec S_ 32) (Shape.Idx.first h_S_)).toInt := by
  have h : (starts1 0).ofBuf (after (zeros1 (F := Ideal)) X (Proc.devRef .tc (starts1 0).ref)) = X (Proc.devRef .tc main_v8_5) := by
    show after (zeros1 (F := Ideal)) X (Proc.devRef .tc main_v8_5) = _
    after_results
  exact congrArg (fun v : IVec S_ 32 => (v (Shape.Idx.first h_S_)).toInt) h

theorem begins1_seq (X : Valuation τ sig (Elt Ideal)) : begins1 X 1 = 0 := by
  have h : (starts1 1).ofBuf (after (zeros1 (F := Ideal)) X (Proc.devRef .tc (starts1 1).ref)) = constantI S_ 32 0#32 := by
    show after (zeros1 (F := Ideal)) X (Proc.devRef .tc main_while1b_call2_c) = _
    after_results
    rfl
  exact congrArg (fun v : IVec S_ 32 => (v (Shape.Idx.first h_S_)).toInt) h

theorem begins1_lane (X : Valuation τ sig (Elt Ideal)) : begins1 X 2 = 0 := by
  have h : (starts1 2).ofBuf (after (zeros1 (F := Ideal)) X (Proc.devRef .tc (starts1 2).ref)) = constantI S_ 32 0#32 := by
    show after (zeros1 (F := Ideal)) X (Proc.devRef .tc main_while1b_call2_c_0) = _
    after_results
    rfl
  exact congrArg (fun v : IVec S_ 32 => (v (Shape.Idx.first h_S_)).toInt) h

theorem pick1_v (X : Valuation τ sig (Elt Ideal)) :
    (after (opsP1 (F := Ideal)) X (Proc.devRef .tc main_while1b_v16) : FVec Ideal S1024x128 .f32) = pick (X (Proc.devRef .tc main_v8_0)) (begins1 X) := by
  after_results
  rfl

theorem gates1_v (X : Valuation τ sig (Elt Ideal)) :
    (after (opsG1 (F := Ideal)) X (Proc.devRef .tc main_while1b_v27) : FVec Ideal S1024x512 .f32)
      = gates (X (Proc.devRef .tc main_while1b_v16)) (X (Proc.devRef .tc main_v8_6)) (X (Proc.devRef .tc main_v8_1)) (X (Proc.devRef .tc main_v8_2)) (X (Proc.devRef .tc main_v8_3)) (X (Proc.devRef .tc main_v8_4)) := by
  after_results
  rfl

theorem cell1_v (X : Valuation τ sig (Elt Ideal)) :
    (after (opsH1 (F := Ideal)) X (Proc.devRef .tc main_v8_7) : FVec Ideal S1024x128 .f32) = cellOf (X (Proc.devRef .tc main_while1b_v27)) (X (Proc.devRef .tc main_v8_7)) := by
  after_results
  rfl

theorem hid1_v (X : Valuation τ sig (Elt Ideal)) :
    (after (opsH1 (F := Ideal)) X (Proc.devRef .tc main_v8_6) : FVec Ideal S1024x128 .f32)
      = hidOf (X (Proc.devRef .tc main_while1b_v27)) (cellOf (X (Proc.devRef .tc main_while1b_v27)) (X (Proc.devRef .tc main_v8_7))) := by
  after_results
  rfl

/-- The preactivations of a trip of the first loop, read at an index. -/
theorem pre0_v (X : Valuation τ sig (Elt Ideal)) (n : ℕ) (hn : n < 200) (hX : X (Proc.devRef .tc main_v4_5) = fun _ => Scf.iv 0#32 1#32 n) (b : Fin 1024) (g : Fin 512) :
    (after (opsG0 (F := Ideal)) (after (opsP0 (F := Ideal)) X) (Proc.devRef .tc main_while0b_v27) : FVec Ideal S1024x512 .f32) (ix2 b g)
      = Recur.pre ⟨fun g k => ((X (Proc.devRef .tc main_v4_1)) : FVec Ideal S512x128 .f32) (ix2 g k), fun g k => ((X (Proc.devRef .tc main_v4_2)) : FVec Ideal S512x128 .f32) (ix2 g k), fun g => ((X (Proc.devRef .tc main_v4_3)) : FVec Ideal S512 .f32) (ix1 g), fun g => ((X (Proc.devRef .tc main_v4_4)) : FVec Ideal S512 .f32) (ix1 g)⟩
          (fun k => ((X (Proc.devRef .tc main_v4_0)) : FVec Ideal S200x1024x128 .f32) (ix3 ⟨n, hn⟩ b k)) (fun k => ((X (Proc.devRef .tc main_v4_6)) : FVec Ideal S1024x128 .f32) (ix2 b k)) g := by
  have hb : begins0 X 0 = n := by
    rw [begins0_row, hX]
    show (Scf.iv 0#32 1#32 n).toInt = n
    rw [show Scf.iv 0#32 1#32 n = BitVec.ofNat 32 n from by simp [Scf.iv]]
    exact toInt_ofNat_of_lt (by omega)
  rw [gates0_v, gates_apply, pick0_v, StableHlo.after_unwritten wrP0 opsP0_writes (by decide), StableHlo.after_unwritten wrP0 opsP0_writes (by decide),
    StableHlo.after_unwritten wrP0 opsP0_writes (by decide), StableHlo.after_unwritten wrP0 opsP0_writes (by decide), StableHlo.after_unwritten wrP0 opsP0_writes (by decide)]
  simp only [pick_apply _ _ n hn hb (begins0_seq X) (begins0_lane X)]

/-- What a trip of the first loop leaves in the cell state, -/
theorem trip0_c (X : Valuation τ sig (Elt Ideal)) (n : ℕ) (hn : n < 200) (hX : X (Proc.devRef .tc main_v4_5) = fun _ => Scf.iv 0#32 1#32 n) (b : Fin 1024) (j : Fin 128) :
    (after (opsL0 (F := Ideal)) X (Proc.devRef .tc main_v4_7) : FVec Ideal S1024x128 .f32) (ix2 b j)
      = Recur.nextC ⟨fun g k => ((X (Proc.devRef .tc main_v4_1)) : FVec Ideal S512x128 .f32) (ix2 g k), fun g k => ((X (Proc.devRef .tc main_v4_2)) : FVec Ideal S512x128 .f32) (ix2 g k), fun g => ((X (Proc.devRef .tc main_v4_3)) : FVec Ideal S512 .f32) (ix1 g), fun g => ((X (Proc.devRef .tc main_v4_4)) : FVec Ideal S512 .f32) (ix1 g)⟩
          (fun k => ((X (Proc.devRef .tc main_v4_0)) : FVec Ideal S200x1024x128 .f32) (ix3 ⟨n, hn⟩ b k)) (fun k => ((X (Proc.devRef .tc main_v4_6)) : FVec Ideal S1024x128 .f32) (ix2 b k)) (((X (Proc.devRef .tc main_v4_7)) : FVec Ideal S1024x128 .f32) (ix2 b j)) j := by
  rw [opsL0_split, after_two, after_two, cell0_v, cellOf_apply, StableHlo.after_unwritten (r := main_v4_7) wrG0 opsG0_writes (by decide), StableHlo.after_unwritten (r := main_v4_7) wrP0 opsP0_writes (by decide)]
  simp only [pre0_v X n hn hX]
  rw [Recur.lane_zero j _ (by decide)]
  rfl

/-- and in the hidden state. -/
theorem trip0_h (X : Valuation τ sig (Elt Ideal)) (n : ℕ) (hn : n < 200) (hX : X (Proc.devRef .tc main_v4_5) = fun _ => Scf.iv 0#32 1#32 n) (b : Fin 1024) (j : Fin 128) :
    (after (opsL0 (F := Ideal)) X (Proc.devRef .tc main_v4_6) : FVec Ideal S1024x128 .f32) (ix2 b j)
      = Recur.nextH ⟨fun g k => ((X (Proc.devRef .tc main_v4_1)) : FVec Ideal S512x128 .f32) (ix2 g k), fun g k => ((X (Proc.devRef .tc main_v4_2)) : FVec Ideal S512x128 .f32) (ix2 g k), fun g => ((X (Proc.devRef .tc main_v4_3)) : FVec Ideal S512 .f32) (ix1 g), fun g => ((X (Proc.devRef .tc main_v4_4)) : FVec Ideal S512 .f32) (ix1 g)⟩
          (fun k => ((X (Proc.devRef .tc main_v4_0)) : FVec Ideal S200x1024x128 .f32) (ix3 ⟨n, hn⟩ b k)) (fun k => ((X (Proc.devRef .tc main_v4_6)) : FVec Ideal S1024x128 .f32) (ix2 b k)) (((X (Proc.devRef .tc main_v4_7)) : FVec Ideal S1024x128 .f32) (ix2 b j)) j := by
  rw [opsL0_split, after_two, after_two, hid0_v, hidOf_apply, cellOf_apply, StableHlo.after_unwritten (r := main_v4_7) wrG0 opsG0_writes (by decide), StableHlo.after_unwritten (r := main_v4_7) wrP0 opsP0_writes (by decide)]
  simp only [pre0_v X n hn hX]
  rw [Recur.lane_zero j _ (by decide)]
  rfl

/-- The preactivations of a trip of the second loop, read at an index. -/
theorem pre1_v (X : Valuation τ sig (Elt Ideal)) (n : ℕ) (hn : n < 200) (hX : X (Proc.devRef .tc main_v8_5) = fun _ => Scf.iv 0#32 1#32 n) (b : Fin 1024) (g : Fin 512) :
    (after (opsG1 (F := Ideal)) (after (opsP1 (F := Ideal)) X) (Proc.devRef .tc main_while1b_v27) : FVec Ideal S1024x512 .f32) (ix2 b g)
      = Recur.pre ⟨fun g k => ((X (Proc.devRef .tc main_v8_1)) : FVec Ideal S512x128 .f32) (ix2 g k), fun g k => ((X (Proc.devRef .tc main_v8_2)) : FVec Ideal S512x128 .f32) (ix2 g k), fun g => ((X (Proc.devRef .tc main_v8_3)) : FVec Ideal S512 .f32) (ix1 g), fun g => ((X (Proc.devRef .tc main_v8_4)) : FVec Ideal S512 .f32) (ix1 g)⟩
          (fun k => ((X (Proc.devRef .tc main_v8_0)) : FVec Ideal S200x1024x128 .f32) (ix3 ⟨n, hn⟩ b k)) (fun k => ((X (Proc.devRef .tc main_v8_6)) : FVec Ideal S1024x128 .f32) (ix2 b k)) g := by
  have hb : begins1 X 0 = n := by
    rw [begins1_row, hX]
    show (Scf.iv 0#32 1#32 n).toInt = n
    rw [show Scf.iv 0#32 1#32 n = BitVec.ofNat 32 n from by simp [Scf.iv]]
    exact toInt_ofNat_of_lt (by omega)
  rw [gates1_v, gates_apply, pick1_v, StableHlo.after_unwritten wrP1 opsP1_writes (by decide), StableHlo.after_unwritten wrP1 opsP1_writes (by decide),
    StableHlo.after_unwritten wrP1 opsP1_writes (by decide), StableHlo.after_unwritten wrP1 opsP1_writes (by decide), StableHlo.after_unwritten wrP1 opsP1_writes (by decide)]
  simp only [pick_apply _ _ n hn hb (begins1_seq X) (begins1_lane X)]

/-- What a trip of the second loop leaves in the cell state, -/
theorem trip1_c (X : Valuation τ sig (Elt Ideal)) (n : ℕ) (hn : n < 200) (hX : X (Proc.devRef .tc main_v8_5) = fun _ => Scf.iv 0#32 1#32 n) (b : Fin 1024) (j : Fin 128) :
    (after (opsL1 (F := Ideal)) X (Proc.devRef .tc main_v8_7) : FVec Ideal S1024x128 .f32) (ix2 b j)
      = Recur.nextC ⟨fun g k => ((X (Proc.devRef .tc main_v8_1)) : FVec Ideal S512x128 .f32) (ix2 g k), fun g k => ((X (Proc.devRef .tc main_v8_2)) : FVec Ideal S512x128 .f32) (ix2 g k), fun g => ((X (Proc.devRef .tc main_v8_3)) : FVec Ideal S512 .f32) (ix1 g), fun g => ((X (Proc.devRef .tc main_v8_4)) : FVec Ideal S512 .f32) (ix1 g)⟩
          (fun k => ((X (Proc.devRef .tc main_v8_0)) : FVec Ideal S200x1024x128 .f32) (ix3 ⟨n, hn⟩ b k)) (fun k => ((X (Proc.devRef .tc main_v8_6)) : FVec Ideal S1024x128 .f32) (ix2 b k)) (((X (Proc.devRef .tc main_v8_7)) : FVec Ideal S1024x128 .f32) (ix2 b j)) j := by
  rw [opsL1_split, after_two, after_two, cell1_v, cellOf_apply, StableHlo.after_unwritten (r := main_v8_7) wrG1 opsG1_writes (by decide), StableHlo.after_unwritten (r := main_v8_7) wrP1 opsP1_writes (by decide)]
  simp only [pre1_v X n hn hX]
  rw [Recur.lane_zero j _ (by decide)]
  rfl

/-- and in the hidden state. -/
theorem trip1_h (X : Valuation τ sig (Elt Ideal)) (n : ℕ) (hn : n < 200) (hX : X (Proc.devRef .tc main_v8_5) = fun _ => Scf.iv 0#32 1#32 n) (b : Fin 1024) (j : Fin 128) :
    (after (opsL1 (F := Ideal)) X (Proc.devRef .tc main_v8_6) : FVec Ideal S1024x128 .f32) (ix2 b j)
      = Recur.nextH ⟨fun g k => ((X (Proc.devRef .tc main_v8_1)) : FVec Ideal S512x128 .f32) (ix2 g k), fun g k => ((X (Proc.devRef .tc main_v8_2)) : FVec Ideal S512x128 .f32) (ix2 g k), fun g => ((X (Proc.devRef .tc main_v8_3)) : FVec Ideal S512 .f32) (ix1 g), fun g => ((X (Proc.devRef .tc main_v8_4)) : FVec Ideal S512 .f32) (ix1 g)⟩
          (fun k => ((X (Proc.devRef .tc main_v8_0)) : FVec Ideal S200x1024x128 .f32) (ix3 ⟨n, hn⟩ b k)) (fun k => ((X (Proc.devRef .tc main_v8_6)) : FVec Ideal S1024x128 .f32) (ix2 b k)) (((X (Proc.devRef .tc main_v8_7)) : FVec Ideal S1024x128 .f32) (ix2 b j)) j := by
  rw [opsL1_split, after_two, after_two, hid1_v, hidOf_apply, cellOf_apply, StableHlo.after_unwritten (r := main_v8_7) wrG1 opsG1_writes (by decide), StableHlo.after_unwritten (r := main_v8_7) wrP1 opsP1_writes (by decide)]
  simp only [pre1_v X n hn hX]
  rw [Recur.lane_zero j _ (by decide)]
  rfl

end Cert.ReferenceIdeal.Pf
-- ==== Proof.RefRun.lean ====
/-
  What the reference leaves in its result: over in-range row numbers both of its loops run the recurrence, and the last
  layer reads the two last hidden states.
-/
module

public import proofs.«01_k».proof.Proof.RefTake
public import proofs.«01_k».proof.Proof.RefVal

@[expose] public section

set_option maxRecDepth 16384

noncomputable section

namespace Cert.ReferenceIdeal.Pf

open Cert.ReferenceIdeal Cert.ReferenceIdeal.Gen
open Idealize.ShloMosaic Idealize.ShloMosaic.TcCoe
open Idealize.ShloMosaic.StableHlo (after)

variable (m : (ℓ : Loc nD τ sig) → Buf (Elt Ideal) ℓ)

/-! ## The rows, and the weights of each direction -/

/-- The rows the memory's row numbers name. -/
abbrev rows (c : Dev nD) : Fin 200 → Fin 1024 → Fin 128 → EReal :=
  Recur.rowsAt (W0 m c (Proc.devRef .tc main_arg0)) (W0 m c (Proc.devRef .tc main_arg1))

/-- The forward direction's weights, -/
abbrev wF (c : Dev nD) : Recur.Weights :=
  ⟨fun g k => (W0 m c (Proc.devRef .tc main_arg2) : FVec Ideal S512x128 .f32) (ix2 g k), fun g k => (W0 m c (Proc.devRef .tc main_arg3) : FVec Ideal S512x128 .f32) (ix2 g k),
    fun g => (W0 m c (Proc.devRef .tc main_arg4) : FVec Ideal S512 .f32) (ix1 g), fun g => (W0 m c (Proc.devRef .tc main_arg5) : FVec Ideal S512 .f32) (ix1 g)⟩

/-- and the backward direction's. -/
abbrev wB (c : Dev nD) : Recur.Weights :=
  ⟨fun g k => (W0 m c (Proc.devRef .tc main_arg6) : FVec Ideal S512x128 .f32) (ix2 g k), fun g k => (W0 m c (Proc.devRef .tc main_arg7) : FVec Ideal S512x128 .f32) (ix2 g k),
    fun g => (W0 m c (Proc.devRef .tc main_arg8) : FVec Ideal S512 .f32) (ix1 g), fun g => (W0 m c (Proc.devRef .tc main_arg9) : FVec Ideal S512 .f32) (ix1 g)⟩

theorem bits_zero : (FloatOps.ofBits FTy.f32 0x00000000#32 : Ideal .f32) = (0 : EReal) := by
  exact Ideal.ofBits_zero_f32

/-- What a buffer written before the first loop, and not by it, holds at its end. -/
theorem WL0_kept (c : Dev nD) (b : Ref sig .tc) (h1 : b ∉ wrK0) (h2 : b ∉ wrL0) : WL0 m c (Proc.devRef .tc b) = WA m c (Proc.devRef .tc b) := by
  unfold WL0
  rw [StableHlo.after_unwritten wrK0 opsK0_writes h1]
  exact X0_kept m c b h1 h2 200

/-- An argument is untouched until the first loop, -/
theorem WA_arg (c : Dev nD) (b : Ref sig .tc) (h1 : b ∉ wrT) (h2 : b ∉ wrA) : WA m c (Proc.devRef .tc b) = W0 m c (Proc.devRef .tc b) := by
  unfold WA WT
  rw [StableHlo.after_unwritten wrA opsA_writes h2, StableHlo.after_unwritten wrT opsT_writes h1]

/-- The rows by step, where the first loop is entered. -/
theorem WA_steps (c : Dev nD) (hx : ∀ j, ((W0 m c (Proc.devRef .tc main_arg0) : IVec S1024x200 32) j).toNat < 100000) (t : Fin 200) (b : Fin 1024) (k : Fin 128) :
    (WA m c (Proc.devRef .tc main_v1) : FVec Ideal S200x1024x128 .f32) (ix3 t b k) = rows m c t b k := by
  have h : (WA m c (Proc.devRef .tc main_v1) : FVec Ideal S200x1024x128 .f32)
      = transpose S200x1024x128 [1, 0, 2] (WT m c (Proc.devRef .tc main_v0) : FVec Ideal S1024x200x128 .f32) transposes_S1024x200x128_S200x1024x128_1_0_2 := by
    unfold WA
    after_results
  rw [h]
  unfold WT
  rw [take_v]
  refine Eq.trans ?_ (takeOf_apply _ hx _ b t k)
  generalize takeOf (F := Ideal) (W0 m c (Proc.devRef .tc main_arg0)) (W0 m c (Proc.devRef .tc main_arg1)) = G
  pointwise

/-! ## The forward loop -/

theorem in0_row (c : Dev nD) (hx : ∀ j, ((W0 m c (Proc.devRef .tc main_arg0) : IVec S1024x200 32) j).toNat < 100000) (n : ℕ) (hn : n < 200) (b : Fin 1024) (k : Fin 128) :
    (WA m c (Proc.devRef .tc main_v4_0) : FVec Ideal S200x1024x128 .f32) (ix3 ⟨n, hn⟩ b k) = Recur.fwd (rows m c) n b k := by
  have h : (WA m c (Proc.devRef .tc main_v4_0) : FVec Ideal S200x1024x128 .f32) = WA m c (Proc.devRef .tc main_v1) := by
    unfold WA
    after_results
    rfl
  rw [h, WA_steps m c hx]
  unfold Recur.fwd
  exact congrArg (fun t => rows m c t b k) (Fin.ext (Nat.mod_eq_of_lt hn).symm)

theorem carry0_1 {F : FTy → Type} [FloatOps F] (X : Valuation τ sig (Elt F)) : after opsA X (Proc.devRef .tc main_v4_1) = X (Proc.devRef .tc main_arg2) := by
  after_results
  rfl

theorem in0_1 (c : Dev nD) : WA m c (Proc.devRef .tc main_v4_1) = W0 m c (Proc.devRef .tc main_arg2) := by
  refine (carry0_1 (WT m c)).trans ?_
  unfold WT
  rw [StableHlo.after_unwritten wrT opsT_writes (by decide)]

theorem carry0_2 {F : FTy → Type} [FloatOps F] (X : Valuation τ sig (Elt F)) : after opsA X (Proc.devRef .tc main_v4_2) = X (Proc.devRef .tc main_arg3) := by
  after_results
  rfl

theorem in0_2 (c : Dev nD) : WA m c (Proc.devRef .tc main_v4_2) = W0 m c (Proc.devRef .tc main_arg3) := by
  refine (carry0_2 (WT m c)).trans ?_
  unfold WT
  rw [StableHlo.after_unwritten wrT opsT_writes (by decide)]

theorem carry0_3 {F : FTy → Type} [FloatOps F] (X : Valuation τ sig (Elt F)) : after opsA X (Proc.devRef .tc main_v4_3) = X (Proc.devRef .tc main_arg4) := by
  after_results
  rfl

theorem in0_3 (c : Dev nD) : WA m c (Proc.devRef .tc main_v4_3) = W0 m c (Proc.devRef .tc main_arg4) := by
  refine (carry0_3 (WT m c)).trans ?_
  unfold WT
  rw [StableHlo.after_unwritten wrT opsT_writes (by decide)]

theorem carry0_4 {F : FTy → Type} [FloatOps F] (X : Valuation τ sig (Elt F)) : after opsA X (Proc.devRef .tc main_v4_4) = X (Proc.devRef .tc main_arg5) := by
  after_results
  rfl

theorem in0_4 (c : Dev nD) : WA m c (Proc.devRef .tc main_v4_4) = W0 m c (Proc.devRef .tc main_arg5) := by
  refine (carry0_4 (WT m c)).trans ?_
  unfold WT
  rw [StableHlo.after_unwritten wrT opsT_writes (by decide)]

theorem carry0_6 {F : FTy → Type} [FloatOps F] (X : Valuation τ sig (Elt F)) :
    (after opsA X (Proc.devRef .tc main_v4_6) : FVec F S1024x128 .f32) = broadcastInDim S1024x128 ![] bcast_S_S1024x128 (constant S_ .f32 0x00000000#32 : FVec F S_ .f32) := by
  after_results
  rfl

theorem in0_6 (c : Dev nD) (b : Fin 1024) (j : Fin 128) : (WA m c (Proc.devRef .tc main_v4_6) : FVec Ideal S1024x128 .f32) (ix2 b j) = (0 : EReal) := by
  refine (congrFun (carry0_6 (WT m c)) (ix2 b j)).trans ?_
  exact bits_zero

theorem carry0_7 {F : FTy → Type} [FloatOps F] (X : Valuation τ sig (Elt F)) :
    (after opsA X (Proc.devRef .tc main_v4_7) : FVec F S1024x128 .f32) = broadcastInDim S1024x128 ![] bcast_S_S1024x128 (constant S_ .f32 0x00000000#32 : FVec F S_ .f32) := by
  after_results
  rfl

theorem in0_7 (c : Dev nD) (b : Fin 1024) (j : Fin 128) : (WA m c (Proc.devRef .tc main_v4_7) : FVec Ideal S1024x128 .f32) (ix2 b j) = (0 : EReal) := by
  refine (congrFun (carry0_7 (WT m c)) (ix2 b j)).trans ?_
  exact bits_zero

/-- A trip of the forward loop is a step of the recurrence. -/
theorem step0 (c : Dev nD) (hx : ∀ j, ((W0 m c (Proc.devRef .tc main_arg0) : IVec S1024x200 32) j).toNat < 100000) : ∀ n, n ≤ 200 →
    ((∀ b j, (X0 m n c (Proc.devRef .tc main_v4_6) : FVec Ideal S1024x128 .f32) (ix2 b j) = (Recur.run (wF m c) (Recur.fwd (rows m c)) n).h b j)
      ∧ ∀ b j, (X0 m n c (Proc.devRef .tc main_v4_7) : FVec Ideal S1024x128 .f32) (ix2 b j) = (Recur.run (wF m c) (Recur.fwd (rows m c)) n).c b j)
  | 0, _ => by
    rw [X0_zero]
    exact ⟨fun b j => in0_6 m c b j, fun b j => in0_7 m c b j⟩
  | n + 1, hn => by
    obtain ⟨hh, hc⟩ := step0 c hx n (by omega)
    have hctr : after (opsK0 (F := Ideal)) (X0 m n c) (Proc.devRef .tc main_v4_5) = fun _ => Scf.iv 0#32 1#32 n := by
      rw [StableHlo.after_unwritten (r := main_v4_5) wrK0 opsK0_writes (by decide)]
      exact ctr0 m c n
    have hr : ∀ b k, (X0 m n c (Proc.devRef .tc main_v4_0) : FVec Ideal S200x1024x128 .f32) (ix3 ⟨n, hn⟩ b k) = Recur.fwd (rows m c) n b k := fun b k => by
      rw [show X0 m n c (Proc.devRef .tc main_v4_0) = _ from X0_kept m c main_v4_0 (by decide) (by decide) n]
      exact in0_row m c hx n hn b k
    rw [X0_succ]
    constructor
    · intro b j
      rw [trip0_h _ n hn hctr b j, StableHlo.after_unwritten (r := main_v4_0) wrK0 opsK0_writes (by decide), StableHlo.after_unwritten (r := main_v4_1) wrK0 opsK0_writes (by decide), StableHlo.after_unwritten (r := main_v4_2) wrK0 opsK0_writes (by decide), StableHlo.after_unwritten (r := main_v4_3) wrK0 opsK0_writes (by decide), StableHlo.after_unwritten (r := main_v4_4) wrK0 opsK0_writes (by decide), StableHlo.after_unwritten (r := main_v4_6) wrK0 opsK0_writes (by decide), StableHlo.after_unwritten (r := main_v4_7) wrK0 opsK0_writes (by decide)]
      simp only [hr, hh, hc]
      rw [show X0 m n c (Proc.devRef .tc main_v4_1) = _ from (X0_kept m c main_v4_1 (by decide) (by decide) n).trans (in0_1 m c),
        show X0 m n c (Proc.devRef .tc main_v4_2) = _ from (X0_kept m c main_v4_2 (by decide) (by decide) n).trans (in0_2 m c),
        show X0 m n c (Proc.devRef .tc main_v4_3) = _ from (X0_kept m c main_v4_3 (by decide) (by decide) n).trans (in0_3 m c),
        show X0 m n c (Proc.devRef .tc main_v4_4) = _ from (X0_kept m c main_v4_4 (by decide) (by decide) n).trans (in0_4 m c)]
      rfl
    · intro b j
      rw [trip0_c _ n hn hctr b j, StableHlo.after_unwritten (r := main_v4_0) wrK0 opsK0_writes (by decide), StableHlo.after_unwritten (r := main_v4_1) wrK0 opsK0_writes (by decide), StableHlo.after_unwritten (r := main_v4_2) wrK0 opsK0_writes (by decide), StableHlo.after_unwritten (r := main_v4_3) wrK0 opsK0_writes (by decide), StableHlo.after_unwritten (r := main_v4_4) wrK0 opsK0_writes (by decide), StableHlo.after_unwritten (r := main_v4_6) wrK0 opsK0_writes (by decide), StableHlo.after_unwritten (r := main_v4_7) wrK0 opsK0_writes (by decide)]
      simp only [hr, hh, hc]
      rw [show X0 m n c (Proc.devRef .tc main_v4_1) = _ from (X0_kept m c main_v4_1 (by decide) (by decide) n).trans (in0_1 m c),
        show X0 m n c (Proc.devRef .tc main_v4_2) = _ from (X0_kept m c main_v4_2 (by decide) (by decide) n).trans (in0_2 m c),
        show X0 m n c (Proc.devRef .tc main_v4_3) = _ from (X0_kept m c main_v4_3 (by decide) (by decide) n).trans (in0_3 m c),
        show X0 m n c (Proc.devRef .tc main_v4_4) = _ from (X0_kept m c main_v4_4 (by decide) (by decide) n).trans (in0_4 m c)]
      rfl

/-! ## The backward loop -/

theorem carry1_0 {F : FTy → Type} [FloatOps F] (X : Valuation τ sig (Elt F)) :
    (after opsB X (Proc.devRef .tc main_v8_0) : FVec F S200x1024x128 .f32) = Host.reverse [0] (X (Proc.devRef .tc main_v1) : FVec F S200x1024x128 .f32) := by
  after_results
  rfl

/-- The rows turned end to end. -/
theorem reverse_apply (G : FVec Ideal S200x1024x128 .f32) (n : ℕ) (hn : n < 200) (b : Fin 1024) (k : Fin 128) :
    Host.reverse [0] G (ix3 ⟨n, hn⟩ b k) = G (ix3 ⟨199 - n, by omega⟩ b k) := by
  unfold Host.reverse
  refine congrArg G ?_
  funext a
  match a with
  | ⟨0, _⟩ => exact Fin.ext (by show 200 - (n + 1) = 199 - n; omega)
  | ⟨1, _⟩ => rfl
  | ⟨2, _⟩ => rfl

theorem in1_row (c : Dev nD) (hx : ∀ j, ((W0 m c (Proc.devRef .tc main_arg0) : IVec S1024x200 32) j).toNat < 100000) (n : ℕ) (hn : n < 200) (b : Fin 1024) (k : Fin 128) :
    (WB m c (Proc.devRef .tc main_v8_0) : FVec Ideal S200x1024x128 .f32) (ix3 ⟨n, hn⟩ b k) = Recur.bwd (rows m c) n b k := by
  refine (congrFun (carry1_0 (WL0 m c)) (ix3 ⟨n, hn⟩ b k)).trans ?_
  rw [reverse_apply _ n hn, WL0_kept m c main_v1 (by decide) (by decide), WA_steps m c hx]
  unfold Recur.bwd
  exact congrArg (fun t => rows m c t b k) (Fin.ext (by show 199 - n = 199 - n % 200; rw [Nat.mod_eq_of_lt hn]))

theorem carry1_1 {F : FTy → Type} [FloatOps F] (X : Valuation τ sig (Elt F)) : after opsB X (Proc.devRef .tc main_v8_1) = X (Proc.devRef .tc main_arg6) := by
  after_results
  rfl

theorem in1_1 (c : Dev nD) : WB m c (Proc.devRef .tc main_v8_1) = W0 m c (Proc.devRef .tc main_arg6) := by
  refine (carry1_1 (WL0 m c)).trans ?_
  exact (WL0_kept m c main_arg6 (by decide) (by decide)).trans (WA_arg m c main_arg6 (by decide) (by decide))

theorem carry1_2 {F : FTy → Type} [FloatOps F] (X : Valuation τ sig (Elt F)) : after opsB X (Proc.devRef .tc main_v8_2) = X (Proc.devRef .tc main_arg7) := by
  after_results
  rfl

theorem in1_2 (c : Dev nD) : WB m c (Proc.devRef .tc main_v8_2) = W0 m c (Proc.devRef .tc main_arg7) := by
  refine (carry1_2 (WL0 m c)).trans ?_
  exact (WL0_kept m c main_arg7 (by decide) (by decide)).trans (WA_arg m c main_arg7 (by decide) (by decide))

theorem carry1_3 {F : FTy → Type} [FloatOps F] (X : Valuation τ sig (Elt F)) : after opsB X (Proc.devRef .tc main_v8_3) = X (Proc.devRef .tc main_arg8) := by
  after_results
  rfl

theorem in1_3 (c : Dev nD) : WB m c (Proc.devRef .tc main_v8_3) = W0 m c (Proc.devRef .tc main_arg8) := by
  refine (carry1_3 (WL0 m c)).trans ?_
  exact (WL0_kept m c main_arg8 (by decide) (by decide)).trans (WA_arg m c main_arg8 (by decide) (by decide))

theorem carry1_4 {F : FTy → Type} [FloatOps F] (X : Valuation τ sig (Elt F)) : after opsB X (Proc.devRef .tc main_v8_4) = X (Proc.devRef .tc main_arg9) := by
  after_results
  rfl

theorem in1_4 (c : Dev nD) : WB m c (Proc.devRef .tc main_v8_4) = W0 m c (Proc.devRef .tc main_arg9) := by
  refine (carry1_4 (WL0 m c)).trans ?_
  exact (WL0_kept m c main_arg9 (by decide) (by decide)).trans (WA_arg m c main_arg9 (by decide) (by decide))

theorem carry1_6 {F : FTy → Type} [FloatOps F] (X : Valuation τ sig (Elt F)) :
    (after opsB X (Proc.devRef .tc main_v8_6) : FVec F S1024x128 .f32) = broadcastInDim S1024x128 ![] bcast_S_S1024x128 (constant S_ .f32 0x00000000#32 : FVec F S_ .f32) := by
  after_results
  rfl

theorem in1_6 (c : Dev nD) (b : Fin 1024) (j : Fin 128) : (WB m c (Proc.devRef .tc main_v8_6) : FVec Ideal S1024x128 .f32) (ix2 b j) = (0 : EReal) := by
  refine (congrFun (carry1_6 (WL0 m c)) (ix2 b j)).trans ?_
  exact bits_zero

theorem carry1_7 {F : FTy → Type} [FloatOps F] (X : Valuation τ sig (Elt F)) :
    (after opsB X (Proc.devRef .tc main_v8_7) : FVec F S1024x128 .f32) = broadcastInDim S1024x128 ![] bcast_S_S1024x128 (constant S_ .f32 0x00000000#32 : FVec F S_ .f32) := by
  after_results
  rfl

theorem in1_7 (c : Dev nD) (b : Fin 1024) (j : Fin 128) : (WB m c (Proc.devRef .tc main_v8_7) : FVec Ideal S1024x128 .f32) (ix2 b j) = (0 : EReal) := by
  refine (congrFun (carry1_7 (WL0 m c)) (ix2 b j)).trans ?_
  exact bits_zero

/-- A trip of the backward loop is a step of the recurrence. -/
theorem step1 (c : Dev nD) (hx : ∀ j, ((W0 m c (Proc.devRef .tc main_arg0) : IVec S1024x200 32) j).toNat < 100000) : ∀ n, n ≤ 200 →
    ((∀ b j, (X1 m n c (Proc.devRef .tc main_v8_6) : FVec Ideal S1024x128 .f32) (ix2 b j) = (Recur.run (wB m c) (Recur.bwd (rows m c)) n).h b j)
      ∧ ∀ b j, (X1 m n c (Proc.devRef .tc main_v8_7) : FVec Ideal S1024x128 .f32) (ix2 b j) = (Recur.run (wB m c) (Recur.bwd (rows m c)) n).c b j)
  | 0, _ => by
    rw [X1_zero]
    exact ⟨fun b j => in1_6 m c b j, fun b j => in1_7 m c b j⟩
  | n + 1, hn => by
    obtain ⟨hh, hc⟩ := step1 c hx n (by omega)
    have hctr : after (opsK1 (F := Ideal)) (X1 m n c) (Proc.devRef .tc main_v8_5) = fun _ => Scf.iv 0#32 1#32 n := by
      rw [StableHlo.after_unwritten (r := main_v8_5) wrK1 opsK1_writes (by decide)]
      exact ctr1 m c n
    have hr : ∀ b k, (X1 m n c (Proc.devRef .tc main_v8_0) : FVec Ideal S200x1024x128 .f32) (ix3 ⟨n, hn⟩ b k) = Recur.bwd (rows m c) n b k := fun b k => by
      rw [show X1 m n c (Proc.devRef .tc main_v8_0) = _ from X1_kept m c main_v8_0 (by decide) (by decide) n]
      exact in1_row m c hx n hn b k
    rw [X1_succ]
    constructor
    · intro b j
      rw [trip1_h _ n hn hctr b j, StableHlo.after_unwritten (r := main_v8_0) wrK1 opsK1_writes (by decide), StableHlo.after_unwritten (r := main_v8_1) wrK1 opsK1_writes (by decide), StableHlo.after_unwritten (r := main_v8_2) wrK1 opsK1_writes (by decide), StableHlo.after_unwritten (r := main_v8_3) wrK1 opsK1_writes (by decide), StableHlo.after_unwritten (r := main_v8_4) wrK1 opsK1_writes (by decide), StableHlo.after_unwritten (r := main_v8_6) wrK1 opsK1_writes (by decide), StableHlo.after_unwritten (r := main_v8_7) wrK1 opsK1_writes (by decide)]
      simp only [hr, hh, hc]
      rw [show X1 m n c (Proc.devRef .tc main_v8_1) = _ from (X1_kept m c main_v8_1 (by decide) (by decide) n).trans (in1_1 m c),
        show X1 m n c (Proc.devRef .tc main_v8_2) = _ from (X1_kept m c main_v8_2 (by decide) (by decide) n).trans (in1_2 m c),
        show X1 m n c (Proc.devRef .tc main_v8_3) = _ from (X1_kept m c main_v8_3 (by decide) (by decide) n).trans (in1_3 m c),
        show X1 m n c (Proc.devRef .tc main_v8_4) = _ from (X1_kept m c main_v8_4 (by decide) (by decide) n).trans (in1_4 m c)]
      rfl
    · intro b j
      rw [trip1_c _ n hn hctr b j, StableHlo.after_unwritten (r := main_v8_0) wrK1 opsK1_writes (by decide), StableHlo.after_unwritten (r := main_v8_1) wrK1 opsK1_writes (by decide), StableHlo.after_unwritten (r := main_v8_2) wrK1 opsK1_writes (by decide), StableHlo.after_unwritten (r := main_v8_3) wrK1 opsK1_writes (by decide), StableHlo.after_unwritten (r := main_v8_4) wrK1 opsK1_writes (by decide), StableHlo.after_unwritten (r := main_v8_6) wrK1 opsK1_writes (by decide), StableHlo.after_unwritten (r := main_v8_7) wrK1 opsK1_writes (by decide)]
      simp only [hr, hh, hc]
      rw [show X1 m n c (Proc.devRef .tc main_v8_1) = _ from (X1_kept m c main_v8_1 (by decide) (by decide) n).trans (in1_1 m c),
        show X1 m n c (Proc.devRef .tc main_v8_2) = _ from (X1_kept m c main_v8_2 (by decide) (by decide) n).trans (in1_2 m c),
        show X1 m n c (Proc.devRef .tc main_v8_3) = _ from (X1_kept m c main_v8_3 (by decide) (by decide) n).trans (in1_3 m c),
        show X1 m n c (Proc.devRef .tc main_v8_4) = _ from (X1_kept m c main_v8_4 (by decide) (by decide) n).trans (in1_4 m c)]
      rfl

/-! ## The last layer -/

/-- The forward hidden state the last layer reads, -/
theorem last0 (c : Dev nD) : WL1 m c (Proc.devRef .tc main_v4_6) = X0 m 200 c (Proc.devRef .tc main_v4_6) := by
  unfold WL1
  rw [StableHlo.after_unwritten wrK1 opsK1_writes (by decide)]
  refine (X1_kept m c main_v4_6 (by decide) (by decide) 200).trans ?_
  unfold WB WL0
  rw [StableHlo.after_unwritten wrB opsB_writes (by decide), StableHlo.after_unwritten wrK0 opsK0_writes (by decide)]

/-- and the backward one. -/
theorem last1 (c : Dev nD) : WL1 m c (Proc.devRef .tc main_v8_6) = X1 m 200 c (Proc.devRef .tc main_v8_6) := by
  unfold WL1
  rw [StableHlo.after_unwritten wrK1 opsK1_writes (by decide)]

/-- An argument that nothing writes reaches the last layer. -/
theorem WL1_arg (c : Dev nD) (b : Ref sig .tc) (ht : b ∉ wrT) (ha : b ∉ wrA) (h1 : b ∉ wrK0) (h2 : b ∉ wrL0) (hb : b ∉ wrB)
    (h3 : b ∉ wrK1) (h4 : b ∉ wrL1) : WL1 m c (Proc.devRef .tc b) = W0 m c (Proc.devRef .tc b) := by
  unfold WL1
  rw [StableHlo.after_unwritten wrK1 opsK1_writes h3]
  refine (X1_kept m c b h3 h4 200).trans ?_
  unfold WB
  rw [StableHlo.after_unwritten wrB opsB_writes hb]
  exact (WL0_kept m c b h1 h2).trans (WA_arg m c b ht ha)

/-- The last layer over the two hidden states. -/
def lastOf {F : FTy → Type} [FloatOps F] (hf hb : FVec F S1024x128 .f32) (v : FVec F S1x256 .f32) (b0 : FVec F S1 .f32) : FVec F S1024 .f32 :=
  shapeCast S1024 (addf (Host.dotGeneral dot_S1024x256_S256x1_S1024x1_1_0_0_1_n_n none
      (concatenate S1024x256 1 [⟨S1024x128, hf⟩, ⟨S1024x128, hb⟩] concatenates_S1024x128_S1024x128_S1024x256_d1)
      (transpose S256x1 [1, 0] v transposes_S1x256_S256x1_1_0))
    (broadcastInDim S1024x1 ![0, 1] bcast_S1x1_S1024x1_0_1 (broadcastInDim S1x1 ![1] bcast_S1_S1x1_1 b0))) shapeCasts_S1024x1_S1024

theorem last_v (X : Valuation τ sig (Elt Ideal)) :
    (after (opsC (F := Ideal)) X (Proc.devRef .tc main_v15) : FVec Ideal S1024 .f32)
      = lastOf (F := Ideal) (X (Proc.devRef .tc main_v4_6)) (X (Proc.devRef .tc main_v8_6)) (X (Proc.devRef .tc main_arg10)) (X (Proc.devRef .tc main_arg11)) := by
  after_results
  rfl

theorem lastOf_apply (hf hb : FVec Ideal S1024x128 .f32) (v : FVec Ideal S1x256 .f32) (b0 : FVec Ideal S1 .f32) (b : Fin 1024) :
    lastOf hf hb v b0 (ix1 b) = Recur.result (fun b k => hf (ix2 b k)) (fun b k => hb (ix2 b k)) (fun k => v (ix2 0 k)) (b0 (ix1 0)) b := by
  pointwise [lastOf]
  rfl

/-- The reference's result. -/
theorem result_apply (c : Dev nD) (hx : ∀ j, ((W0 m c (Proc.devRef .tc main_arg0) : IVec S1024x200 32) j).toNat < 100000) (b : Fin 1024) :
    (WC m c (Proc.devRef .tc main_v15) : FVec Ideal S1024 .f32) (ix1 b)
      = Recur.result (Recur.run (wF m c) (Recur.fwd (rows m c)) (199 + 1)).h (Recur.run (wB m c) (Recur.bwd (rows m c)) (199 + 1)).h
          (fun k => (W0 m c (Proc.devRef .tc main_arg10) : FVec Ideal S1x256 .f32) (ix2 0 k)) ((W0 m c (Proc.devRef .tc main_arg11) : FVec Ideal S1 .f32) (ix1 0)) b := by
  unfold WC
  rw [last_v, last0, last1, WL1_arg m c main_arg10 (by decide) (by decide) (by decide) (by decide) (by decide) (by decide) (by decide),
    WL1_arg m c main_arg11 (by decide) (by decide) (by decide) (by decide) (by decide) (by decide) (by decide), lastOf_apply]
  have h0 : (fun b k => (X0 m 200 c (Proc.devRef .tc main_v4_6) : FVec Ideal S1024x128 .f32) (ix2 b k)) = (Recur.run (wF m c) (Recur.fwd (rows m c)) (199 + 1)).h :=
    funext fun b => funext fun k => (step0 m c hx (199 + 1) (by omega)).1 b k
  have h1 : (fun b k => (X1 m 200 c (Proc.devRef .tc main_v8_6) : FVec Ideal S1024x128 .f32) (ix2 b k)) = (Recur.run (wB m c) (Recur.bwd (rows m c)) (199 + 1)).h :=
    funext fun b => funext fun k => (step1 m c hx (199 + 1) (by omega)).1 b k
  rw [h0, h1]

end Cert.ReferenceIdeal.Pf
-- ==== Proof.Values.lean ====
/-
  The value claim: over memories whose arguments agree, the kernel and the reference leave the same result.
-/
module

public import proofs.«01_k».proof.Proof.Frames
public import proofs.«01_k».proof.Proof.KerHost
public import proofs.«01_k».proof.Proof.RefRun

@[expose] public section

noncomputable section

namespace Cert.Frames

open Idealize.ShloMosaic Idealize.ShloMosaic.TcCoe Idealize.SL.Sem

/-- The reference's result is the kernel's, lane by lane, where the arguments agree. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : Cert.KernelIdeal.Pf.PreOK m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Pf.WC m' c (Proc.devRef .tc Cert.ReferenceIdeal.main_v15) : Cert.ReferenceIdeal.S1024.Idx → EReal)
      = (Cert.KernelIdeal.Pf.W5 m c (Proc.devRef .tc Cert.KernelIdeal.main_v37) : Cert.KernelIdeal.S1024.Idx → EReal) := by
  funext i
  rw [eq_ix1 i]
  refine (Cert.ReferenceIdeal.Pf.result_apply m' c (fun j => ?_) (i 0)).trans (Eq.trans ?_ (Cert.KernelIdeal.Pf.result_apply m c (i 0)).symm)
  · show (m' ((c.tc : Thread Cert.ReferenceIdeal.nD Cert.ReferenceIdeal.τ).loc Cert.ReferenceIdeal.main_arg0) j).toNat < 100000
    rw [e0]
    exact hx c j
  · show Recur.result (Recur.run ⟨fun g k => (m' ((c.tc : Thread Cert.ReferenceIdeal.nD Cert.ReferenceIdeal.τ).loc Cert.ReferenceIdeal.main_arg2)) (ix2 g k), fun g k => (m' ((c.tc : Thread Cert.ReferenceIdeal.nD Cert.ReferenceIdeal.τ).loc Cert.ReferenceIdeal.main_arg3)) (ix2 g k), fun g => (m' ((c.tc : Thread Cert.ReferenceIdeal.nD Cert.ReferenceIdeal.τ).loc Cert.ReferenceIdeal.main_arg4)) (ix1 g), fun g => (m' ((c.tc : Thread Cert.ReferenceIdeal.nD Cert.ReferenceIdeal.τ).loc Cert.ReferenceIdeal.main_arg5)) (ix1 g)⟩ (Recur.fwd (Recur.rowsAt (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))) (199 + 1)).h (Recur.run ⟨fun g k => (m' ((c.tc : Thread Cert.ReferenceIdeal.nD Cert.ReferenceIdeal.τ).loc Cert.ReferenceIdeal.main_arg6)) (ix2 g k), fun g k => (m' ((c.tc : Thread Cert.ReferenceIdeal.nD Cert.ReferenceIdeal.τ).loc Cert.ReferenceIdeal.main_arg7)) (ix2 g k), fun g => (m' ((c.tc : Thread Cert.ReferenceIdeal.nD Cert.ReferenceIdeal.τ).loc Cert.ReferenceIdeal.main_arg8)) (ix1 g), fun g => (m' ((c.tc : Thread Cert.ReferenceIdeal.nD Cert.ReferenceIdeal.τ).loc Cert.ReferenceIdeal.main_arg9)) (ix1 g)⟩ (Recur.bwd (Recur.rowsAt (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))) (199 + 1)).h
      (fun k => (m' ((c.tc : Thread Cert.ReferenceIdeal.nD Cert.ReferenceIdeal.τ).loc Cert.ReferenceIdeal.main_arg10)) (ix2 0 k)) ((m' ((c.tc : Thread Cert.ReferenceIdeal.nD Cert.ReferenceIdeal.τ).loc Cert.ReferenceIdeal.main_arg11)) (ix1 0)) (i 0) = _
    rw [e0, e1, e2, e3, e4, e5, e6, e7, e8, e9, e10, e11]
    rfl

/-- `Cert.algebraic_KernelIdeal_ReferenceIdeal`: over equal arguments the two programs leave the same result. -/
theorem values : Cert.algebraic_KernelIdeal_ReferenceIdeal := fun m g m' g' hpre hm =>
  ⟨fun c => Cert.KernelIdeal.Pf.W5 m c (Proc.devRef .tc Cert.KernelIdeal.main_v37),
    (θ_run (Cert.KernelIdeal.defs (F := Ideal)) _ _).mono
      (fun r h c => ⟨h.1 c _ (Cert.KernelIdeal.Pf.mem_refs Cert.KernelIdeal.main_v37 rfl), KernelIdeal_args m r h c⟩)
      (Cert.KernelIdeal.Pf.run_main (F := Ideal) m g (ideal_ok m hpre)),
    (θ_run (Cert.ReferenceIdeal.defs (F := Ideal)) _ _).mono
      (fun r h c => ⟨(h.1 c _ (StableHlo.devRef_mem_ucRefs Cert.ReferenceIdeal.main_v15 rfl)).trans
          (by
            obtain ⟨e0, e1, e2, e3, e4, e5, e6, e7, e8, e9, e10, e11⟩ := hm c
            exact results_eq m m' c (ideal_ok m hpre) e0 e1 e2 e3 e4 e5 e6 e7 e8 e9 e10 e11),
        ReferenceIdeal_args m' r h.1 c⟩)
      (Cert.ReferenceIdeal.Pf.run_main (F := Ideal) m' g')⟩

end Cert.Frames

end
-- ==== Proof.lean ====
/- The proof of the certificate's claim: the frames of the three programs, that the idealized kernel is the
   kernel, and that it leaves the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Frames.Kernel_frame, Cert.Frames.KernelIdeal_frame, Cert.Frames.ReferenceIdeal_frame, Cert.Frames.ReferenceIdeal_frame_pre, trivial, Cert.Frames.values⟩

end Cert.Proof

end
